-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_normal [hPre_scales_normal : Cert.Pre_scales_normal.Facts] (m : (ℓ : Loc Cert.KernelIdeal.nD Cert.KernelIdeal.τ Cert.KernelIdeal.sig) → Buf (Elt Ideal) ℓ) : Prop :=
  ∀ c : Dev Cert.KernelIdeal.nD,
    (Cert.Pre_scales_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_scales_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_normal [hPre_scales_normal : Cert.Pre_scales_normal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_scales_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_scales_normal [hKernelIdeal : Cert.KernelIdeal.Facts] [hPre_scales_normal : Cert.Pre_scales_normal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_normal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_scales_normal [hReferenceIdeal : Cert.ReferenceIdeal.Facts] [hPre_scales_normal : Cert.Pre_scales_normal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_normal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_scales_normal [hKernelIdeal : Cert.KernelIdeal.Facts] [hReferenceIdeal : Cert.ReferenceIdeal.Facts] [hPre_scales_normal : Cert.Pre_scales_normal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_normal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v3)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_scales_normal : Cert.Pre_scales_normal.Facts),
    quiescent_Kernel (hKernel := hKernel)
    ∧ quiescent_KernelIdeal (hKernelIdeal := hKernelIdeal)
    ∧ quiescent_KernelIdeal_pre_scales_normal (hKernelIdeal := hKernelIdeal) (hPre_scales_normal := hPre_scales_normal)
    ∧ quiescent_ReferenceIdeal (hReferenceIdeal := hReferenceIdeal)
    ∧ quiescent_ReferenceIdeal_pre_scales_normal (hReferenceIdeal := hReferenceIdeal) (hPre_scales_normal := hPre_scales_normal)
    ∧ preserves_Kernel_KernelIdeal
    ∧ algebraic_KernelIdeal_ReferenceIdeal_pre_scales_normal (hKernelIdeal := hKernelIdeal) (hReferenceIdeal := hReferenceIdeal) (hPre_scales_normal := hPre_scales_normal)
-- ==== Pre_scales_normal.lean ====
abbrev S5120x3x2048 : Shape := ⟨3, ![5120, 3, 2048]⟩
abbrev S3456x5120 : Shape := ⟨2, ![3456, 5120]⟩
abbrev S40x128x3x2048 : Shape := ⟨4, ![40, 128, 3, 2048]⟩
abbrev S_ : Shape := ⟨0, ![]⟩
abbrev S40x3x2048 : Shape := ⟨3, ![40, 3, 2048]⟩
abbrev S3456x40x128 : Shape := ⟨3, ![3456, 40, 128]⟩
abbrev S3456x40 : Shape := ⟨2, ![3456, 40]⟩

class Facts : Prop where
  bitsLt_bf16_f32 : FTy.bits .bf16 < FTy.bits .f32
  shapeCasts_S5120x3x2048_S40x128x3x2048 : S5120x3x2048.ShapeCasts S40x128x3x2048
  reducesTo_S40x128x3x2048_S40x3x2048_d1 : S40x128x3x2048.ReducesTo [1] S40x3x2048
  h_S_ : 0 < S_.numel
  shapeCasts_S3456x5120_S3456x40x128 : S3456x5120.ShapeCasts S3456x40x128
  reducesTo_S3456x40x128_S3456x40_d2 : S3456x40x128.ReducesTo [2] S3456x40
  bcast_S_S40x3x2048 : S_.BroadcastsInDim S40x3x2048 (![] : Fin 0 → Fin S40x3x2048.rank)
  bcast_S_S3456x40 : S_.BroadcastsInDim S3456x40 (![] : Fin 0 → Fin S3456x40.rank)

variable [Facts]

def fn_part1 {F : FTy → Type} [FloatOps F] (main_v7 : FVec F S3456x40 .f32) (main_v15 : IVec S40x3x2048 1) (main_v17 : IVec S3456x40 1) : IVec S40x3x2048 1 × IVec S3456x40 1 :=
  let main_cst_5 : FVec F S_ .f32 := constant S_ .f32 0x04E00000#32
  let main_v18 : FVec F S3456x40 .f32 := broadcastInDim S3456x40 ![] bcast_S_S3456x40 main_cst_5
  let main_v19 : IVec S3456x40 1 := cmpf .oge main_v7 main_v18
  let main_cst_6 : FVec F S_ .f32 := constant S_ .f32 0x7F7F0000#32
  let main_v20 : FVec F S3456x40 .f32 := broadcastInDim S3456x40 ![] bcast_S_S3456x40 main_cst_6
  let main_v21 : IVec S3456x40 1 := cmpf .ole main_v7 main_v20
  let main_v22 : IVec S3456x40 1 := andi main_v19 main_v21
  let main_v23 : IVec S3456x40 1 := ori main_v17 main_v22
  (main_v15, main_v23)

def fn {F : FTy → Type} [FloatOps F] (main_arg0 : FVec F S5120x3x2048 .bf16) (main_arg1 : FVec F S3456x5120 .bf16) : IVec S40x3x2048 1 × IVec S3456x40 1 :=
  let main_v0 : FVec F S5120x3x2048 .f32 := (extf .f32 · bitsLt_bf16_f32) main_arg0
  let main_v1 : FVec F S40x128x3x2048 .f32 := shapeCast S40x128x3x2048 main_v0 shapeCasts_S5120x3x2048_S40x128x3x2048
  let main_v2 : FVec F S40x128x3x2048 .f32 := Host.absf main_v1
  let main_cst : FVec F S_ .f32 := constant S_ .f32 0xFF800000#32
  let main_v3 : FVec F S40x3x2048 .f32 := (fun x v => Host.reduce FloatOps.maximumf x v reducesTo_S40x128x3x2048_S40x3x2048_d1 h_S_) main_v2 main_cst
  let main_v4 : FVec F S3456x5120 .f32 := (extf .f32 · bitsLt_bf16_f32) main_arg1
  let main_v5 : FVec F S3456x40x128 .f32 := shapeCast S3456x40x128 main_v4 shapeCasts_S3456x5120_S3456x40x128
  let main_v6 : FVec F S3456x40x128 .f32 := Host.absf main_v5
  let main_cst_0 : FVec F S_ .f32 := constant S_ .f32 0xFF800000#32
  let main_v7 : FVec F S3456x40 .f32 := (fun x v => Host.reduce FloatOps.maximumf x v reducesTo_S3456x40x128_S3456x40_d2 h_S_) main_v6 main_cst_0
  let main_cst_1 : FVec F S_ .f32 := constant S_ .f32 0x00000000#32
  let main_v8 : FVec F S40x3x2048 .f32 := broadcastInDim S40x3x2048 ![] bcast_S_S40x3x2048 main_cst_1
  let main_v9 : IVec S40x3x2048 1 := cmpf .oeq main_v3 main_v8
  let main_cst_2 : FVec F S_ .f32 := constant S_ .f32 0x04E00000#32
  let main_v10 : FVec F S40x3x2048 .f32 := broadcastInDim S40x3x2048 ![] bcast_S_S40x3x2048 main_cst_2
  let main_v11 : IVec S40x3x2048 1 := cmpf .oge main_v3 main_v10
  let main_cst_3 : FVec F S_ .f32 := constant S_ .f32 0x7F7F0000#32
  let main_v12 : FVec F S40x3x2048 .f32 := broadcastInDim S40x3x2048 ![] bcast_S_S40x3x2048 main_cst_3
  let main_v13 : IVec S40x3x2048 1 := cmpf .ole main_v3 main_v12
  let main_v14 : IVec S40x3x2048 1 := andi main_v11 main_v13
  let main_v15 : IVec S40x3x2048 1 := ori main_v9 main_v14
  let main_cst_4 : FVec F S_ .f32 := constant S_ .f32 0x00000000#32
  let main_v16 : FVec F S3456x40 .f32 := broadcastInDim S3456x40 ![] bcast_S_S3456x40 main_cst_4
  let main_v17 : IVec S3456x40 1 := cmpf .oeq main_v7 main_v16
  fn_part1 (F := F) main_v7 main_v15 main_v17
-- ==== Kernel.lean ====
abbrev S5120x3x2048 : Shape := ⟨3, ![5120, 3, 2048]⟩
abbrev S3456x5120 : Shape := ⟨2, ![3456, 5120]⟩
abbrev S3x5120x2048 : Shape := ⟨3, ![3, 5120, 2048]⟩
abbrev S3x2048x3456 : Shape := ⟨3, ![3, 2048, 3456]⟩
abbrev S3x40x2048 : Shape := ⟨3, ![3, 40, 2048]⟩
abbrev S40x3456 : Shape := ⟨2, ![40, 3456]⟩
abbrev S1x5120x256 : Shape := ⟨3, ![1, 5120, 256]⟩
abbrev S384x5120 : Shape := ⟨2, ![384, 5120]⟩
abbrev S1x256x384 : Shape := ⟨3, ![1, 256, 384]⟩
abbrev S1x40x256 : Shape := ⟨3, ![1, 40, 256]⟩
abbrev S40x384 : Shape := ⟨2, ![40, 384]⟩
abbrev S5120x256 : Shape := ⟨2, ![5120, 256]⟩
abbrev S1x128x256 : Shape := ⟨3, ![1, 128, 256]⟩
abbrev S128x256 : Shape := ⟨2, ![128, 256]⟩
abbrev S256 : Shape := ⟨1, ![256]⟩
abbrev S1x256 : Shape := ⟨2, ![1, 256]⟩
abbrev S255x256 : Shape := ⟨2, ![255, 256]⟩
abbrev S1x1x256 : Shape := ⟨3, ![1, 1, 256]⟩
abbrev S384x128 : Shape := ⟨2, ![384, 128]⟩
abbrev S128x384 : Shape := ⟨2, ![128, 384]⟩
abbrev S384 : Shape := ⟨1, ![384]⟩
abbrev S1x384 : Shape := ⟨2, ![1, 384]⟩
abbrev S255x384 : Shape := ⟨2, ![255, 384]⟩
abbrev S384x256 : Shape := ⟨2, ![384, 256]⟩
abbrev S256x384 : Shape := ⟨2, ![256, 384]⟩
abbrev S40x3x2048 : Shape := ⟨3, ![40, 3, 2048]⟩
abbrev S3456x40 : Shape := ⟨2, ![3456, 40]⟩

abbrev nBuf : Space → Nat
  | .hbm => 11
  | .vmem => 16
  | .smem => 0
  | _ => 0

abbrev bufTy : (tb : Table) → Fin (tcTables nBuf tb) → BufTy
  | .hbm, ⟨0, _⟩ => ⟨S5120x3x2048, .bf16⟩
  | .hbm, ⟨1, _⟩ => ⟨S3456x5120, .bf16⟩
  | .hbm, ⟨2, _⟩ => ⟨S3x5120x2048, .bf16⟩
  | .hbm, ⟨3, _⟩ => ⟨S3x2048x3456, .bf16⟩
  | .hbm, ⟨4, _⟩ => ⟨S3x5120x2048, .fp8e4m3⟩
  | .hbm, ⟨5, _⟩ => ⟨S3x40x2048, .f32⟩
  | .hbm, ⟨6, _⟩ => ⟨S3456x5120, .fp8e4m3⟩
  | .hbm, ⟨7, _⟩ => ⟨S40x3456, .f32⟩
  | .hbm, ⟨8, _⟩ => ⟨S5120x3x2048, .fp8e4m3⟩
  | .hbm, ⟨9, _⟩ => ⟨S40x3x2048, .f32⟩
  | .hbm, ⟨10, _⟩ => ⟨S3456x40, .f32⟩
  | .local _ .vmem, ⟨0, _⟩ => ⟨S1x5120x256, .bf16⟩
  | .local _ .vmem, ⟨1, _⟩ => ⟨S1x5120x256, .bf16⟩
  | .local _ .vmem, ⟨2, _⟩ => ⟨S384x5120, .bf16⟩
  | .local _ .vmem, ⟨3, _⟩ => ⟨S384x5120, .bf16⟩
  | .local _ .vmem, ⟨4, _⟩ => ⟨S1x256x384, .bf16⟩
  | .local _ .vmem, ⟨5, _⟩ => ⟨S1x256x384, .bf16⟩
  | .local _ .vmem, ⟨6, _⟩ => ⟨S1x5120x256, .fp8e4m3⟩
  | .local _ .vmem, ⟨7, _⟩ => ⟨S1x5120x256, .fp8e4m3⟩
  | .local _ .vmem, ⟨8, _⟩ => ⟨S1x40x256, .f32⟩
  | .local _ .vmem, ⟨9, _⟩ => ⟨S1x40x256, .f32⟩
  | .local _ .vmem, ⟨10, _⟩ => ⟨S384x5120, .fp8e4m3⟩
  | .local _ .vmem, ⟨11, _⟩ => ⟨S384x5120, .fp8e4m3⟩
  | .local _ .vmem, ⟨12, _⟩ => ⟨S40x384, .f32⟩
  | .local _ .vmem, ⟨13, _⟩ => ⟨S40x384, .f32⟩
  | .local _ .vmem, ⟨14, _⟩ => ⟨S5120x256, .bf16⟩
  | .local _ .vmem, ⟨15, _⟩ => ⟨S3456x5120, .bf16⟩
  | _, _ => ⟨S5120x3x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v1_4 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![24, 9], ![false, false]⟩

def k0_mult1 (i : grid0.Coords) : BitVec 32 :=
  let arg1 : BitVec 32 := BitVec.ofNat 32 (i 1).val
  let c384_i32 : BitVec 32 := 384#32
  let v0 : BitVec 32 := Scalar.muli arg1 c384_i32
  v0
def k0_cond2 (i : grid0.Coords) : BitVec 1 :=
  let arg0 : BitVec 32 := BitVec.ofNat 32 (i 0).val
  let c0_i32_1 : BitVec 32 := 0#32
  let v5 : BitVec 1 := Scalar.cmpi .eq arg0 c0_i32_1
  let v6 : BitVec 32 := Scalar.extui v5
  let c0_i32_2 : BitVec 32 := 0#32
  let v7 : BitVec 1 := Scalar.cmpi .ne v6 c0_i32_2
  v7

def k0_off1 (i : grid0.Coords) : Fin 2 → Nat :=
  let arg1 : BitVec 32 := BitVec.ofNat 32 (i 1).val
  let c384_i32 : BitVec 32 := 384#32
  let v0 : BitVec 32 := Scalar.muli arg1 c384_i32
  let v1 : BitVec 32 := v0
  let v73 : Index := Scalar.indexCast v1
  let c0_23 : Index := 0#32
  ![v73.toNat, 0]
def k0_off2 (i : grid0.Coords) : Fin 2 → Nat :=
  let arg1 : BitVec 32 := BitVec.ofNat 32 (i 1).val
  let c384_i32 : BitVec 32 := 384#32
  let v0 : BitVec 32 := Scalar.muli arg1 c384_i32
  let v1 : BitVec 32 := v0
  let v133 : Index := Scalar.indexCast v1
  let c128_42 : Index := 128#32
  ![v133.toNat, 128]
def k0_off3 (i : grid0.Coords) : Fin 2 → Nat :=
  let arg1 : BitVec 32 := BitVec.ofNat 32 (i 1).val
  let c384_i32 : BitVec 32 := 384#32
  let v0 : BitVec 32 := Scalar.muli arg1 c384_i32
  let v1 : BitVec 32 := v0
  let v193 : Index := Scalar.indexCast v1
  let c256_61 : Index := 256#32
  ![v193.toNat, 256]
def k0_off4 (i : grid0.Coords) : Fin 2 → Nat :=
  let arg1 : BitVec 32 := BitVec.ofNat 32 (i 1).val
  let c384_i32 : BitVec 32 := 384#32
  let v0 : BitVec 32 := Scalar.muli arg1 c384_i32
  let v1 : BitVec 32 := v0
  let v253 : Index := Scalar.indexCast v1
  let c384_80 : Index := 384#32
  ![v253.toNat, 384]
def k0_off5 (i : grid0.Coords) : Fin 2 → Nat :=
  let arg1 : BitVec 32 := BitVec.ofNat 32 (i 1).val
  let c384_i32 : BitVec 32 := 384#32
  let v0 : BitVec 32 := Scalar.muli arg1 c384_i32
  let v1 : BitVec 32 := v0
  let v313 : Index := Scalar.indexCast v1
  let c512_99 : Index := 512#32
  ![v313.toNat, 512]
def k0_off6 (i : grid0.Coords) : Fin 2 → Nat :=
  let arg1 : BitVec 32 := BitVec.ofNat 32 (i 1).val
  let c384_i32 : BitVec 32 := 384#32
  let v0 : BitVec 32 := Scalar.muli arg1 c384_i32
  let v1 : BitVec 32 := v0
  let v373 : Index := Scalar.indexCast v1
  let c640_118 : Index := 640#32
  ![v373.toNat, 640]
def k0_off7 (i : grid0.Coords) : Fin 2 → Nat :=
  let arg1 : BitVec 32 := BitVec.ofNat 32 (i 1).val
  let c384_i32 : BitVec 32 := 384#32
  let v0 : BitVec 32 := Scalar.muli arg1 c384_i32
  let v1 : BitVec 32 := v0
  let v433 : Index := Scalar.indexCast v1
  let c768_137 : Index := 768#32
  ![v433.toNat, 768]
def k0_off8 (i : grid0.Coords) : Fin 2 → Nat :=
  let arg1 : BitVec 32 := BitVec.ofNat 32 (i 1).val
  let c384_i32 : BitVec 32 := 384#32
  let v0 : BitVec 32 := Scalar.muli arg1 c384_i32
  let v1 : BitVec 32 := v0
  let v493 : Index := Scalar.indexCast v1
  let c896_156 : Index := 896#32
  ![v493.toNat, 896]
def k0_off9 (i : grid0.Coords) : Fin 2 → Nat :=
  let arg1 : BitVec 32 := BitVec.ofNat 32 (i 1).val
  let c384_i32 : BitVec 32 := 384#32
  let v0 : BitVec 32 := Scalar.muli arg1 c384_i32
  let v1 : BitVec 32 := v0
  let v553 : Index := Scalar.indexCast v1
  let c1024_175 : Index := 1024#32
  ![v553.toNat, 1024]
def k0_off10 (i : grid0.Coords) : Fin 2 → Nat :=
  let arg1 : BitVec 32 := BitVec.ofNat 32 (i 1).val
  let c384_i32 : BitVec 32 := 384#32
  let v0 : BitVec 32 := Scalar.muli arg1 c384_i32
  let v1 : BitVec 32 := v0
  let v613 : Index := Scalar.indexCast v1
  let c1152_194 : Index := 1152#32
  ![v613.toNat, 1152]
def k0_off11 (i : grid0.Coords) : Fin 2 → Nat :=
  let arg1 : BitVec 32 := BitVec.ofNat 32 (i 1).val
  let c384_i32 : BitVec 32 := 384#32
  let v0 : BitVec 32 := Scalar.muli arg1 c384_i32
  let v1 : BitVec 32 := v0
  let v673 : Index := Scalar.indexCast v1
  let c1280_213 : Index := 1280#32
  ![v673.toNat, 1280]
def k0_off12 (i : grid0.Coords) : Fin 2 → Nat :=
  let arg1 : BitVec 32 := BitVec.ofNat 32 (i 1).val
  let c384_i32 : BitVec 32 := 384#32
  let v0 : BitVec 32 := Scalar.muli arg1 c384_i32
  let v1 : BitVec 32 := v0
  let v733 : Index := Scalar.indexCast v1
  let c1408_232 : Index := 1408#32
  ![v733.toNat, 1408]
def k0_off13 (i : grid0.Coords) : Fin 2 → Nat :=
  let arg1 : BitVec 32 := BitVec.ofNat 32 (i 1).val
  let c384_i32 : BitVec 32 := 384#32
  let v0 : BitVec 32 := Scalar.muli arg1 c384_i32
  let v1 : BitVec 32 := v0
  let v793 : Index := Scalar.indexCast v1
  let c1536_251 : Index := 1536#32
  ![v793.toNat, 1536]
def k0_off14 (i : grid0.Coords) : Fin 2 → Nat :=
  let arg1 : BitVec 32 := BitVec.ofNat 32 (i 1).val
  let c384_i32 : BitVec 32 := 384#32
  let v0 : BitVec 32 := Scalar.muli arg1 c384_i32
  let v1 : BitVec 32 := v0
  let v853 : Index := Scalar.indexCast v1
  let c1664_270 : Index := 1664#32
  ![v853.toNat, 1664]
def k0_off15 (i : grid0.Coords) : Fin 2 → Nat :=
  let arg1 : BitVec 32 := BitVec.ofNat 32 (i 1).val
  let c384_i32 : BitVec 32 := 384#32
  let v0 : BitVec 32 := Scalar.muli arg1 c384_i32
  let v1 : BitVec 32 := v0
  let v913 : Index := Scalar.indexCast v1
  let c1792_289 : Index := 1792#32
  ![v913.toNat, 1792]
def k0_off16 (i : grid0.Coords) : Fin 2 → Nat :=
  let arg1 : BitVec 32 := BitVec.ofNat 32 (i 1).val
  let c384_i32 : BitVec 32 := 384#32
  let v0 : BitVec 32 := Scalar.muli arg1 c384_i32
  let v1 : BitVec 32 := v0
  let v973 : Index := Scalar.indexCast v1
  let c1920_308 : Index := 1920#32
  ![v973.toNat, 1920]
def k0_off17 (i : grid0.Coords) : Fin 2 → Nat :=
  let arg1 : BitVec 32 := BitVec.ofNat 32 (i 1).val
  let c384_i32 : BitVec 32 := 384#32
  let v0 : BitVec 32 := Scalar.muli arg1 c384_i32
  let v1 : BitVec 32 := v0
  let v1033 : Index := Scalar.indexCast v1
  let c2048_327 : Index := 2048#32
  ![v1033.toNat, 2048]
def k0_off18 (i : grid0.Coords) : Fin 2 → Nat :=
  let arg1 : BitVec 32 := BitVec.ofNat 32 (i 1).val
  let c384_i32 : BitVec 32 := 384#32
  let v0 : BitVec 32 := Scalar.muli arg1 c384_i32
  let v1 : BitVec 32 := v0
  let v1093 : Index := Scalar.indexCast v1
  let c2176_346 : Index := 2176#32
  ![v1093.toNat, 2176]
def k0_off19 (i : grid0.Coords) : Fin 2 → Nat :=
  let arg1 : BitVec 32 := BitVec.ofNat 32 (i 1).val
  let c384_i32 : BitVec 32 := 384#32
  let v0 : BitVec 32 := Scalar.muli arg1 c384_i32
  let v1 : BitVec 32 := v0
  let v1153 : Index := Scalar.indexCast v1
  let c2304_365 : Index := 2304#32
  ![v1153.toNat, 2304]
def k0_off20 (i : grid0.Coords) : Fin 2 → Nat :=
  let arg1 : BitVec 32 := BitVec.ofNat 32 (i 1).val
  let c384_i32 : BitVec 32 := 384#32
  let v0 : BitVec 32 := Scalar.muli arg1 c384_i32
  let v1 : BitVec 32 := v0
  let v1213 : Index := Scalar.indexCast v1
  let c2432_384 : Index := 2432#32
  ![v1213.toNat, 2432]
def k0_off21 (i : grid0.Coords) : Fin 2 → Nat :=
  let arg1 : BitVec 32 := BitVec.ofNat 32 (i 1).val
  let c384_i32 : BitVec 32 := 384#32
  let v0 : BitVec 32 := Scalar.muli arg1 c384_i32
  let v1 : BitVec 32 := v0
  let v1273 : Index := Scalar.indexCast v1
  let c2560_403 : Index := 2560#32
  ![v1273.toNat, 2560]
def k0_off22 (i : grid0.Coords) : Fin 2 → Nat :=
  let arg1 : BitVec 32 := BitVec.ofNat 32 (i 1).val
  let c384_i32 : BitVec 32 := 384#32
  let v0 : BitVec 32 := Scalar.muli arg1 c384_i32
  let v1 : BitVec 32 := v0
  let v1333 : Index := Scalar.indexCast v1
  let c2688_422 : Index := 2688#32
  ![v1333.toNat, 2688]
def k0_off23 (i : grid0.Coords) : Fin 2 → Nat :=
  let arg1 : BitVec 32 := BitVec.ofNat 32 (i 1).val
  let c384_i32 : BitVec 32 := 384#32
  let v0 : BitVec 32 := Scalar.muli arg1 c384_i32
  let v1 : BitVec 32 := v0
  let v1393 : Index := Scalar.indexCast v1
  let c2816_441 : Index := 2816#32
  ![v1393.toNat, 2816]
def k0_off24 (i : grid0.Coords) : Fin 2 → Nat :=
  let arg1 : BitVec 32 := BitVec.ofNat 32 (i 1).val
  let c384_i32 : BitVec 32 := 384#32
  let v0 : BitVec 32 := Scalar.muli arg1 c384_i32
  let v1 : BitVec 32 := v0
  let v1453 : Index := Scalar.indexCast v1
  let c2944_460 : Index := 2944#32
  ![v1453.toNat, 2944]
def k0_off25 (i : grid0.Coords) : Fin 2 → Nat :=
  let arg1 : BitVec 32 := BitVec.ofNat 32 (i 1).val
  let c384_i32 : BitVec 32 := 384#32
  let v0 : BitVec 32 := Scalar.muli arg1 c384_i32
  let v1 : BitVec 32 := v0
  let v1513 : Index := Scalar.indexCast v1
  let c3072_479 : Index := 3072#32
  ![v1513.toNat, 3072]
def k0_off26 (i : grid0.Coords) : Fin 2 → Nat :=
  let arg1 : BitVec 32 := BitVec.ofNat 32 (i 1).val
  let c384_i32 : BitVec 32 := 384#32
  let v0 : BitVec 32 := Scalar.muli arg1 c384_i32
  let v1 : BitVec 32 := v0
  let v1573 : Index := Scalar.indexCast v1
  let c3200_498 : Index := 3200#32
  ![v1573.toNat, 3200]
def k0_off27 (i : grid0.Coords) : Fin 2 → Nat :=
  let arg1 : BitVec 32 := BitVec.ofNat 32 (i 1).val
  let c384_i32 : BitVec 32 := 384#32
  let v0 : BitVec 32 := Scalar.muli arg1 c384_i32
  let v1 : BitVec 32 := v0
  let v1633 : Index := Scalar.indexCast v1
  let c3328_517 : Index := 3328#32
  ![v1633.toNat, 3328]
def k0_off28 (i : grid0.Coords) : Fin 2 → Nat :=
  let arg1 : BitVec 32 := BitVec.ofNat 32 (i 1).val
  let c384_i32 : BitVec 32 := 384#32
  let v0 : BitVec 32 := Scalar.muli arg1 c384_i32
  let v1 : BitVec 32 := v0
  let v1693 : Index := Scalar.indexCast v1
  let c3456_536 : Index := 3456#32
  ![v1693.toNat, 3456]
def k0_off29 (i : grid0.Coords) : Fin 2 → Nat :=
  let arg1 : BitVec 32 := BitVec.ofNat 32 (i 1).val
  let c384_i32 : BitVec 32 := 384#32
  let v0 : BitVec 32 := Scalar.muli arg1 c384_i32
  let v1 : BitVec 32 := v0
  let v1753 : Index := Scalar.indexCast v1
  let c3584_555 : Index := 3584#32
  ![v1753.toNat, 3584]
def k0_off30 (i : grid0.Coords) : Fin 2 → Nat :=
  let arg1 : BitVec 32 := BitVec.ofNat 32 (i 1).val
  let c384_i32 : BitVec 32 := 384#32
  let v0 : BitVec 32 := Scalar.muli arg1 c384_i32
  let v1 : BitVec 32 := v0
  let v1813 : Index := Scalar.indexCast v1
  let c3712_574 : Index := 3712#32
  ![v1813.toNat, 3712]
def k0_off31 (i : grid0.Coords) : Fin 2 → Nat :=
  let arg1 : BitVec 32 := BitVec.ofNat 32 (i 1).val
  let c384_i32 : BitVec 32 := 384#32
  let v0 : BitVec 32 := Scalar.muli arg1 c384_i32
  let v1 : BitVec 32 := v0
  let v1873 : Index := Scalar.indexCast v1
  let c3840_593 : Index := 3840#32
  ![v1873.toNat, 3840]
def k0_off32 (i : grid0.Coords) : Fin 2 → Nat :=
  let arg1 : BitVec 32 := BitVec.ofNat 32 (i 1).val
  let c384_i32 : BitVec 32 := 384#32
  let v0 : BitVec 32 := Scalar.muli arg1 c384_i32
  let v1 : BitVec 32 := v0
  let v1933 : Index := Scalar.indexCast v1
  let c3968_612 : Index := 3968#32
  ![v1933.toNat, 3968]
def k0_off33 (i : grid0.Coords) : Fin 2 → Nat :=
  let arg1 : BitVec 32 := BitVec.ofNat 32 (i 1).val
  let c384_i32 : BitVec 32 := 384#32
  let v0 : BitVec 32 := Scalar.muli arg1 c384_i32
  let v1 : BitVec 32 := v0
  let v1993 : Index := Scalar.indexCast v1
  let c4096_631 : Index := 4096#32
  ![v1993.toNat, 4096]
def k0_off34 (i : grid0.Coords) : Fin 2 → Nat :=
  let arg1 : BitVec 32 := BitVec.ofNat 32 (i 1).val
  let c384_i32 : BitVec 32 := 384#32
  let v0 : BitVec 32 := Scalar.muli arg1 c384_i32
  let v1 : BitVec 32 := v0
  let v2053 : Index := Scalar.indexCast v1
  let c4224_650 : Index := 4224#32
  ![v2053.toNat, 4224]
def k0_off35 (i : grid0.Coords) : Fin 2 → Nat :=
  let arg1 : BitVec 32 := BitVec.ofNat 32 (i 1).val
  let c384_i32 : BitVec 32 := 384#32
  let v0 : BitVec 32 := Scalar.muli arg1 c384_i32
  let v1 : BitVec 32 := v0
  let v2113 : Index := Scalar.indexCast v1
  let c4352_669 : Index := 4352#32
  ![v2113.toNat, 4352]
def k0_off36 (i : grid0.Coords) : Fin 2 → Nat :=
  let arg1 : BitVec 32 := BitVec.ofNat 32 (i 1).val
  let c384_i32 : BitVec 32 := 384#32
  let v0 : BitVec 32 := Scalar.muli arg1 c384_i32
  let v1 : BitVec 32 := v0
  let v2173 : Index := Scalar.indexCast v1
  let c4480_688 : Index := 4480#32
  ![v2173.toNat, 4480]
def k0_off37 (i : grid0.Coords) : Fin 2 → Nat :=
  let arg1 : BitVec 32 := BitVec.ofNat 32 (i 1).val
  let c384_i32 : BitVec 32 := 384#32
  let v0 : BitVec 32 := Scalar.muli arg1 c384_i32
  let v1 : BitVec 32 := v0
  let v2233 : Index := Scalar.indexCast v1
  let c4608_707 : Index := 4608#32
  ![v2233.toNat, 4608]
def k0_off38 (i : grid0.Coords) : Fin 2 → Nat :=
  let arg1 : BitVec 32 := BitVec.ofNat 32 (i 1).val
  let c384_i32 : BitVec 32 := 384#32
  let v0 : BitVec 32 := Scalar.muli arg1 c384_i32
  let v1 : BitVec 32 := v0
  let v2293 : Index := Scalar.indexCast v1
  let c4736_726 : Index := 4736#32
  ![v2293.toNat, 4736]
def k0_off39 (i : grid0.Coords) : Fin 2 → Nat :=
  let arg1 : BitVec 32 := BitVec.ofNat 32 (i 1).val
  let c384_i32 : BitVec 32 := 384#32
  let v0 : BitVec 32 := Scalar.muli arg1 c384_i32
  let v1 : BitVec 32 := v0
  let v2353 : Index := Scalar.indexCast v1
  let c4864_745 : Index := 4864#32
  ![v2353.toNat, 4864]
def k0_off40 (i : grid0.Coords) : Fin 2 → Nat :=
  let arg1 : BitVec 32 := BitVec.ofNat 32 (i 1).val
  let c384_i32 : BitVec 32 := 384#32
  let v0 : BitVec 32 := Scalar.muli arg1 c384_i32
  let v1 : BitVec 32 := v0
  let v2413 : Index := Scalar.indexCast v1
  let c4992_764 : Index := 4992#32
  ![v2413.toNat, 4992]
def k0_off41 (i : grid0.Coords) : Fin 2 → Nat :=
  let arg1 : BitVec 32 := BitVec.ofNat 32 (i 1).val
  let c384_i32 : BitVec 32 := 384#32
  let v0 : BitVec 32 := Scalar.muli arg1 c384_i32
  let v1 : BitVec 32 := v0
  let v8 : Index := Scalar.indexCast v1
  let c0 : Index := 0#32
  ![v8.toNat, 0]
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c8_i32 : BitVec 32 := 8#32
  let v1 : BitVec 32 := Scalar.select v0 arg1 c8_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat, arg1.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c8_i32 : BitVec 32 := 8#32
  let v1 : BitVec 32 := Scalar.select v0 arg1 c8_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c8_i32 : BitVec 32 := 8#32
  let v1 : BitVec 32 := Scalar.select v0 arg1 c8_i32
  let c0_i32_0 : BitVec 32 := 0#32
  let c0_i32_1 : BitVec 32 := 0#32
  ![c0_i32_0.toNat, v1.toNat]

abbrev stage0_0 : Fin 2 → Memref sig .tc .vmem S1x5120x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S384x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x5120x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x40x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S384x5120 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S40x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S5120x3x2048 : Shape := ⟨3, ![5120, 3, 2048]⟩
abbrev S3456x5120 : Shape := ⟨2, ![3456, 5120]⟩
abbrev S3x2048x3456 : Shape := ⟨3, ![3, 2048, 3456]⟩
abbrev S40x3x2048 : Shape := ⟨3, ![40, 3, 2048]⟩
abbrev S3456x40 : Shape := ⟨2, ![3456, 40]⟩
abbrev S40x128x3x2048 : Shape := ⟨4, ![40, 128, 3, 2048]⟩
abbrev S40x1x3x2048 : Shape := ⟨4, ![40, 1, 3, 2048]⟩
abbrev S3456x40x128 : Shape := ⟨3, ![3456, 40, 128]⟩
abbrev S3456x40x1 : Shape := ⟨3, ![3456, 40, 1]⟩
abbrev S5120x1x2048 : Shape := ⟨3, ![5120, 1, 2048]⟩
abbrev S5120x2048 : Shape := ⟨2, ![5120, 2048]⟩
abbrev S2048x3456 : Shape := ⟨2, ![2048, 3456]⟩
abbrev S1x2048x3456 : Shape := ⟨3, ![1, 2048, 3456]⟩

abbrev nBuf : Space → Nat
  | .hbm => 7
  | .vmem => 7
  | .smem => 0
  | _ => 0

abbrev bufTy : (tb : Table) → Fin (tcTables nBuf tb) → BufTy
  | .hbm, ⟨0, _⟩ => ⟨S5120x3x2048, .bf16⟩
  | .hbm, ⟨1, _⟩ => ⟨S3456x5120, .bf16⟩
  | .hbm, ⟨2, _⟩ => ⟨S3x2048x3456, .bf16⟩
  | .hbm, ⟨3, _⟩ => ⟨S5120x3x2048, .fp8e4m3⟩
  | .hbm, ⟨4, _⟩ => ⟨S40x3x2048, .f32⟩
  | .hbm, ⟨5, _⟩ => ⟨S3456x5120, .fp8e4m3⟩
  | .hbm, ⟨6, _⟩ => ⟨S3456x40, .f32⟩
  | .local _ .vmem, ⟨0, _⟩ => ⟨S5120x3x2048, .bf16⟩
  | .local _ .vmem, ⟨1, _⟩ => ⟨S3456x5120, .bf16⟩
  | .local _ .vmem, ⟨2, _⟩ => ⟨S3x2048x3456, .bf16⟩
  | .local _ .vmem, ⟨3, _⟩ => ⟨S5120x3x2048, .fp8e4m3⟩
  | .local _ .vmem, ⟨4, _⟩ => ⟨S40x3x2048, .f32⟩
  | .local _ .vmem, ⟨5, _⟩ => ⟨S3456x5120, .fp8e4m3⟩
  | .local _ .vmem, ⟨6, _⟩ => ⟨S3456x40, .f32⟩
  | _, _ => ⟨S5120x3x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S5120x3x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3456x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x2048x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5120x3x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S40x3x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3456x5120 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3456x40 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KF.Runs.lean ====
/-
  What the four runs of the kernel body share: the branch conditions in closed form, the staging and scratch buffers at a
  point, and the frame read off a run that says nothing of what the outputs hold.
-/
module

public import proofs.«01_k».proof.Proof.Gen.Kernel.Frame
public import proofs.«01_k».proof.Proof.Gen.Kernel.Skeleton

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers that the host lines after the region write. -/
def T0 : Finset (Ref sig .tc) := {main_v2, main_v3, main_v4}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- The argument arrays end as launched, from any run that says so much of the arrays. -/
theorem frame_of_any (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Finset.mem_sdiff.mpr ⟨Pipeline.mem_restRefs_of main_arg0 (by decide) (by decide), by decide⟩)).trans (V_main_arg0 m c),
      (Pipeline.RDat.FramePostR.arr_in h c 1 rfl).trans ((hA c 1).trans (V_main_arg1 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 9) — by arithmetic of the point. -/
theorem hcond0_0 : ∀ t : Fin cfg0.N, cond0_0 (grid0.coords t) ↔ t.val % 9 = 0 :=
  (fun t => by
    have ht : t.val < 216 := Nat.lt_of_lt_of_eq t.isLt N_0
    have e0 : (grid0.coords t 0).val = t.val / 9 % 24 := Pipeline.Grid.coords_val t 0 (by decide) rfl
    have e1 : (grid0.coords t 1).val = t.val / 1 % 9 := Pipeline.Grid.coords_val t 1 (by decide) rfl
    simp only [cond0_0, k0_cond1, e0, e1]
    word_cmp
   : ∀ t : Fin grid0.N, cond0_0 (grid0.coords t) ↔ t.val % 9 = 0)

/-- The condition of the body's `scf.if` 1 (`k0_h2`), from the grid coordinates (the skeleton's scalar
    chain substituted). -/
abbrev cond0_1 (i : grid0.Coords) : Prop := k0_cond2 i = 1#1
/-- It holds at the points before point 9 — by arithmetic of the point. -/
theorem hcond0_1 : ∀ t : Fin cfg0.N, cond0_1 (grid0.coords t) ↔ t.val < 9 :=
  (fun t => by
    have ht : t.val < 216 := Nat.lt_of_lt_of_eq t.isLt N_0
    have e0 : (grid0.coords t 0).val = t.val / 9 % 24 := Pipeline.Grid.coords_val t 0 (by decide) rfl
    have e1 : (grid0.coords t 1).val = t.val / 1 % 9 := Pipeline.Grid.coords_val t 1 (by decide) rfl
    simp only [cond0_1, k0_cond2, e0, e1]
    word_cmp
   : ∀ t : Fin grid0.N, cond0_1 (grid0.coords t) ↔ t.val < 9)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x5120x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S384x5120 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x384 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x5120x256 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x40x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S384x5120 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S40x384 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S5120x256 .bf16 := Memref.whole cc0_scratch0
abbrev scM0_1 : Memref sig .tc .vmem S3456x5120 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Gen

end
-- ==== Proof.KF.RunA.lean ====
/-
  One run of the kernel body, nothing said of what it stores: the points where both tiles are quantised.
-/
module

public import proofs.«01_k».proof.Proof.KF.Runs

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 4692000 in
/-- The body runs, the inputs as they were, every other buffer at some contents. -/
theorem frameRun_A (c : Dev nD) (i : grid0.Coords) (arg2 : Memref sig .tc .vmem S1x5120x256 .bf16) (harg2 : arg2.IsWhole) (arg3 : Memref sig .tc .vmem S384x5120 .bf16) (harg3 : arg3.IsWhole) (arg4 : Memref sig .tc .vmem S1x256x384 .bf16) (harg4 : arg4.IsWhole) (arg5 : Memref sig .tc .vmem S1x5120x256 .fp8e4m3) (harg5 : arg5.IsWhole) (arg6 : Memref sig .tc .vmem S1x40x256 .f32) (harg6 : arg6.IsWhole) (arg7 : Memref sig .tc .vmem S384x5120 .fp8e4m3) (harg7 : arg7.IsWhole) (arg8 : Memref sig .tc .vmem S40x384 .f32) (harg8 : arg8.IsWhole) (arg9 : Memref sig .tc .vmem S5120x256 .bf16) (harg9 : arg9.IsWhole) (arg10 : Memref sig .tc .vmem S3456x5120 .bf16) (harg10 : arg10.IsWhole) (hc0 : cond0_0 i) (hc1 : cond0_1 i)
    (x0 : Vec F S1x5120x256 .bf16) (x1 : Vec F S384x5120 .bf16) :
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_fp8_group_linear i arg2 harg2 arg3 harg3 arg4 harg4 arg5 harg5 arg6 harg6 arg7 harg7 arg8 harg8 arg9 harg9 arg10 harg10) K := by
    intro E K
    simp only [cc0_fp8_group_linear_eq_skeleton]; unfold cc0_fp8_group_linear_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg2.eq_unread hf0; obtain rfl := harg3.eq_unread hf1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    iexists _, _; isplitr; swap; · iexact HS1
    ipureintro; rfl

end Cert.Kernel.Gen

end
-- ==== Proof.KF.RunB.lean ====
/-
  One run of the kernel body, nothing said of what it stores: the points where the weight tile alone is quantised.
-/
module

public import proofs.«01_k».proof.Proof.KF.RunA

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2292000 in
/-- The body runs, the inputs as they were, every other buffer at some contents. -/
theorem frameRun_B (c : Dev nD) (i : grid0.Coords) (arg2 : Memref sig .tc .vmem S1x5120x256 .bf16) (harg2 : arg2.IsWhole) (arg3 : Memref sig .tc .vmem S384x5120 .bf16) (harg3 : arg3.IsWhole) (arg4 : Memref sig .tc .vmem S1x256x384 .bf16) (harg4 : arg4.IsWhole) (arg5 : Memref sig .tc .vmem S1x5120x256 .fp8e4m3) (harg5 : arg5.IsWhole) (arg6 : Memref sig .tc .vmem S1x40x256 .f32) (harg6 : arg6.IsWhole) (arg7 : Memref sig .tc .vmem S384x5120 .fp8e4m3) (harg7 : arg7.IsWhole) (arg8 : Memref sig .tc .vmem S40x384 .f32) (harg8 : arg8.IsWhole) (arg9 : Memref sig .tc .vmem S5120x256 .bf16) (harg9 : arg9.IsWhole) (arg10 : Memref sig .tc .vmem S3456x5120 .bf16) (harg10 : arg10.IsWhole) (hc0 : ¬cond0_0 i) (hc1 : cond0_1 i)
    (x0 : Vec F S1x5120x256 .bf16) (x1 : Vec F S384x5120 .bf16) :
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_fp8_group_linear i arg2 harg2 arg3 harg3 arg4 harg4 arg5 harg5 arg6 harg6 arg7 harg7 arg8 harg8 arg9 harg9 arg10 harg10) K := by
    intro E K
    simp only [cc0_fp8_group_linear_eq_skeleton]; unfold cc0_fp8_group_linear_skel
    simp only [k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg2.eq_unread hf0; obtain rfl := harg3.eq_unread hf1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    iexists _, _; isplitr; swap; · iexact HS1
    ipureintro; rfl

end Cert.Kernel.Gen

end
-- ==== Proof.KF.RunC.lean ====
/-
  One run of the kernel body, nothing said of what it stores: the points where the token tile alone is quantised.
-/
module

public import proofs.«01_k».proof.Proof.KF.RunB

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2484000 in
/-- The body runs, the inputs as they were, every other buffer at some contents. -/
theorem frameRun_C (c : Dev nD) (i : grid0.Coords) (arg2 : Memref sig .tc .vmem S1x5120x256 .bf16) (harg2 : arg2.IsWhole) (arg3 : Memref sig .tc .vmem S384x5120 .bf16) (harg3 : arg3.IsWhole) (arg4 : Memref sig .tc .vmem S1x256x384 .bf16) (harg4 : arg4.IsWhole) (arg5 : Memref sig .tc .vmem S1x5120x256 .fp8e4m3) (harg5 : arg5.IsWhole) (arg6 : Memref sig .tc .vmem S1x40x256 .f32) (harg6 : arg6.IsWhole) (arg7 : Memref sig .tc .vmem S384x5120 .fp8e4m3) (harg7 : arg7.IsWhole) (arg8 : Memref sig .tc .vmem S40x384 .f32) (harg8 : arg8.IsWhole) (arg9 : Memref sig .tc .vmem S5120x256 .bf16) (harg9 : arg9.IsWhole) (arg10 : Memref sig .tc .vmem S3456x5120 .bf16) (harg10 : arg10.IsWhole) (hc0 : cond0_0 i) (hc1 : ¬cond0_1 i)
    (x0 : Vec F S1x5120x256 .bf16) (x1 : Vec F S384x5120 .bf16) :
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_fp8_group_linear i arg2 harg2 arg3 harg3 arg4 harg4 arg5 harg5 arg6 harg6 arg7 harg7 arg8 harg8 arg9 harg9 arg10 harg10) K := by
    intro E K
    simp only [cc0_fp8_group_linear_eq_skeleton]; unfold cc0_fp8_group_linear_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg2.eq_unread hf0; obtain rfl := harg3.eq_unread hf1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    iexists _, _; isplitr; swap; · iexact HS1
    ipureintro; rfl

end Cert.Kernel.Gen

end
-- ==== Proof.KF.RunD.lean ====
/-
  One run of the kernel body, nothing said of what it stores: the points where both tiles are read back.
-/
module

public import proofs.«01_k».proof.Proof.KF.RunC

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body runs, the inputs as they were, every other buffer at some contents. -/
theorem frameRun_D (c : Dev nD) (i : grid0.Coords) (arg2 : Memref sig .tc .vmem S1x5120x256 .bf16) (harg2 : arg2.IsWhole) (arg3 : Memref sig .tc .vmem S384x5120 .bf16) (harg3 : arg3.IsWhole) (arg4 : Memref sig .tc .vmem S1x256x384 .bf16) (harg4 : arg4.IsWhole) (arg5 : Memref sig .tc .vmem S1x5120x256 .fp8e4m3) (harg5 : arg5.IsWhole) (arg6 : Memref sig .tc .vmem S1x40x256 .f32) (harg6 : arg6.IsWhole) (arg7 : Memref sig .tc .vmem S384x5120 .fp8e4m3) (harg7 : arg7.IsWhole) (arg8 : Memref sig .tc .vmem S40x384 .f32) (harg8 : arg8.IsWhole) (arg9 : Memref sig .tc .vmem S5120x256 .bf16) (harg9 : arg9.IsWhole) (arg10 : Memref sig .tc .vmem S3456x5120 .bf16) (harg10 : arg10.IsWhole) (hc0 : ¬cond0_0 i) (hc1 : ¬cond0_1 i)
    (x0 : Vec F S1x5120x256 .bf16) (x1 : Vec F S384x5120 .bf16) :
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_fp8_group_linear i arg2 harg2 arg3 harg3 arg4 harg4 arg5 harg5 arg6 harg6 arg7 harg7 arg8 harg8 arg9 harg9 arg10 harg10) K := by
    intro E K
    simp only [cc0_fp8_group_linear_eq_skeleton]; unfold cc0_fp8_group_linear_skel
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg2.eq_unread hf0; obtain rfl := harg3.eq_unread hf1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    iexists _, _; isplitr; swap; · iexact HS1
    ipureintro; rfl

end Cert.Kernel.Gen

end
-- ==== Proof.KF.Body.lean ====
/-
  The frame of the kernel: it runs to the end and leaves its arguments unchanged, whatever it stores in its outputs.
-/
module

public import proofs.«01_k».proof.Proof.KF.RunD
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (2, 3, 4, 5, 6): nothing reads what the kernel leaves in them, so nothing
    of it is named (Lib/Pipeline/Dat.lean `Dat.toRForget`). -/
def forgets0 : Fin 7 → Bool := fun w => w.val == 2 || w.val == 3 || w.val == 4 || w.val == 5 || w.val == 6

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d))

set_option maxHeartbeats 3200000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 216 := lt_of_lt_of_eq t.isLt (show cfg0.N = 216 from N_0)
  by_cases h0 : t.val % 9 = 0
  · by_cases h1 : t.val < 9
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((frameRun_A c (grid0.coords t) _ _ _ _ _ _ _ _ _ _ _ _ _ _ _ _ _ _ ((hcond0_0 t).mpr h0) ((hcond0_1 t).mpr h1) (iblk m c 0 t) (iblk m c 1 t)) Set.univ _)
      isplitl [H0]; · iexact H0
      isplitl [H1]; · iexact H1
      isplitl [H2]; · iexists _; iexact H2
      isplitl [H3]; · iexists _; iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((frameRun_C c (grid0.coords t) _ _ _ _ _ _ _ _ _ _ _ _ _ _ _ _ _ _ ((hcond0_0 t).mpr h0) (fun h => h1 ((hcond0_1 t).mp h)) (iblk m c 0 t) (iblk m c 1 t)) Set.univ _)
      isplitl [H0]; · iexact H0
      isplitl [H1]; · iexact H1
      isplitl [H2]; · iexists _; iexact H2
      isplitl [H3]; · iexists _; iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · by_cases h1 : t.val < 9
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((frameRun_B c (grid0.coords t) _ _ _ _ _ _ _ _ _ _ _ _ _ _ _ _ _ _ (fun h => h0 ((hcond0_0 t).mp h)) ((hcond0_1 t).mpr h1) (iblk m c 0 t) (iblk m c 1 t)) Set.univ _)
      isplitl [H0]; · iexact H0
      isplitl [H1]; · iexact H1
      isplitl [H2]; · iexists _; iexact H2
      isplitl [H3]; · iexists _; iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((frameRun_D c (grid0.coords t) _ _ _ _ _ _ _ _ _ _ _ _ _ _ _ _ _ _ (fun h => h0 ((hcond0_0 t).mp h)) (fun h => h1 ((hcond0_1 t).mp h)) (iblk m c 0 t) (iblk m c 1 t)) Set.univ _)
      isplitl [H0]; · iexact H0
      isplitl [H1]; · iexact H1
      isplitl [H2]; · iexists _; iexact H2
      isplitl [H3]; · iexists _; iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 2, 3, 4, 5, 6) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of_any m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Kernel.Gen

end
-- ==== Proof.KI.Runs.lean ====
/-
  What the four runs of the kernel body share, where the stored values are followed: the branch conditions in closed
  form, and the staging and scratch buffers at a point.
-/
module

public import proofs.«01_k».proof.Proof.Gen.KernelIdeal.Frame
public import proofs.«01_k».proof.Proof.Gen.KernelIdeal.Skeleton
public import Idealize.ShloMosaic.Lib.Pipeline.ValueKit
public import Idealize.ShloMosaic.Lib.Pipeline.ReadBack

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 9) — by arithmetic of the point. -/
theorem hcond0_0 : ∀ t : Fin cfg0.N, cond0_0 (grid0.coords t) ↔ t.val % 9 = 0 :=
  (fun t => by
    have ht : t.val < 216 := Nat.lt_of_lt_of_eq t.isLt N_0
    have e0 : (grid0.coords t 0).val = t.val / 9 % 24 := Pipeline.Grid.coords_val t 0 (by decide) rfl
    have e1 : (grid0.coords t 1).val = t.val / 1 % 9 := Pipeline.Grid.coords_val t 1 (by decide) rfl
    simp only [cond0_0, k0_cond1, e0, e1]
    word_cmp
   : ∀ t : Fin grid0.N, cond0_0 (grid0.coords t) ↔ t.val % 9 = 0)

/-- The condition of the body's `scf.if` 1 (`k0_h2`), from the grid coordinates (the skeleton's scalar
    chain substituted). -/
abbrev cond0_1 (i : grid0.Coords) : Prop := k0_cond2 i = 1#1
/-- It holds at the points before point 9 — by arithmetic of the point. -/
theorem hcond0_1 : ∀ t : Fin cfg0.N, cond0_1 (grid0.coords t) ↔ t.val < 9 :=
  (fun t => by
    have ht : t.val < 216 := Nat.lt_of_lt_of_eq t.isLt N_0
    have e0 : (grid0.coords t 0).val = t.val / 9 % 24 := Pipeline.Grid.coords_val t 0 (by decide) rfl
    have e1 : (grid0.coords t 1).val = t.val / 1 % 9 := Pipeline.Grid.coords_val t 1 (by decide) rfl
    simp only [cond0_1, k0_cond2, e0, e1]
    word_cmp
   : ∀ t : Fin grid0.N, cond0_1 (grid0.coords t) ↔ t.val < 9)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x5120x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S384x5120 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x384 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x5120x256 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x40x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S384x5120 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S40x384 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S5120x256 .bf16 := Memref.whole cc0_scratch0
abbrev scM0_1 : Memref sig .tc .vmem S3456x5120 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Gen

end
-- ==== Proof.KI.Blocks.lean ====
/-
  What one grid point stores, array by array: the quantised 128-row groups of its token tile, of its weight tile, and
  the product tile. Every store of the body is one group's slab at offset `128 * g`; `Laid` says so of a whole list of
  stores, and a list that is laid out this way is read back by one lemma.
-/
module

public import proofs.«01_k».proof.Proof.Gen.KernelIdeal.Skeleton
public import Idealize.ShloMosaic.Lib.WritesUnit
public import Idealize.ShloMosaic.Lib.WholeRead
public import Idealize.ShloMosaic.Lib.VecWindow
public import Idealize.ShloMosaic.Lib.ValueIdx

@[expose] public section

noncomputable section

namespace Cert.KernelIdeal.Gen

open Idealize.ShloMosaic Idealize.ShloMosaic.ValueIdx

variable {F : FTy → Type} [FloatOps F]

/-! ## Stores laid out side by side -/

section Laid

variable {s : Shape} {e : EltTy} {Val : EltTy → Type}

/-- The list of stores, newest first, puts slab `g < n` at offset `off g`, and every slab holds `G`. -/
def Laid (G : s.Idx → Val e) (off : ℕ → Fin s.rank → ℕ) (size : Fin s.rank → ℕ) : ℕ → List (View.Piece Val s e) → Prop
  | 0, L => L = []
  | n + 1, L => ∃ (o : Fin s.rank → ℕ) (inb : ∀ a, o a + size a ≤ s.size a)
      (w : (Rect.unit o size inb).shape.Idx → Val e) (L' : List (View.Piece Val s e)),
      L = ⟨Rect.unit o size inb, w⟩ :: L' ∧ o = off n
        ∧ (∀ (x : (Rect.unit o size inb).shape.Idx) (y : s.Idx), (∀ a, (y a).val = off n a + (x a).val) → w x = G y)
        ∧ Laid G off size n L'

theorem Laid.cons {G : s.Idx → Val e} {off : ℕ → Fin s.rank → ℕ} {size : Fin s.rank → ℕ} {n : ℕ}
    {L : List (View.Piece Val s e)} (o : Fin s.rank → ℕ) (inb : ∀ a, o a + size a ≤ s.size a)
    (w : (Rect.unit o size inb).shape.Idx → Val e) (ho : o = off n)
    (hw : ∀ (x : (Rect.unit o size inb).shape.Idx) (y : s.Idx), (∀ a, (y a).val = off n a + (x a).val) → w x = G y)
    (hL : Laid G off size n L) : Laid G off size (n + 1) (⟨Rect.unit o size inb, w⟩ :: L) :=
  ⟨o, inb, w, L, rfl, ho, hw, hL⟩

variable {sig : RefSig} {κ : Kind} {sp : Space} (v : View sig κ sp s e) (f : v.ty.Contents Val)

/-- Under some slab the buffer holds `G`. -/
theorem Laid.read_of_mem {G : s.Idx → Val e} {off : ℕ → Fin s.rank → ℕ} {size : Fin s.rank → ℕ} (y : s.Idx) :
    ∀ (n : ℕ) (L : List (View.Piece Val s e)), Laid G off size n L →
      (∃ g < n, ∀ a, off g a ≤ (y a).val ∧ (y a).val < off g a + size a) → v.read Val (v.writes Val f L) y = G y
  | 0, L, _, h => by obtain ⟨g, hg, _⟩ := h; omega
  | n + 1, L, hL, h => by
    obtain ⟨o, inb, w, L', rfl, ho, hw, hL'⟩ := hL
    by_cases hy : ∀ a, off n a ≤ (y a).val ∧ (y a).val < off n a + size a
    · refine (View.read_writes_cons_unit_of_mem v f inb w L' y
        (fun a => ⟨(y a).val - off n a, by have := hy a; show _ < size a; omega⟩) ho (fun a => ?_)).trans
        (hw _ y fun a => ?_)
      · have := hy a; show _ = off n a + ((y a).val - off n a); omega
      · have := hy a; show _ = off n a + ((y a).val - off n a); omega
    · obtain ⟨a, ha⟩ := not_forall.mp hy
      rw [View.read_writes_cons_unit_of_not_mem v f inb w L' y ho a (by omega)]
      refine Laid.read_of_mem y n L' hL' ?_
      obtain ⟨g, hg, hgy⟩ := h
      refine ⟨g, ?_, hgy⟩
      rcases Nat.lt_succ_iff_lt_or_eq.mp hg with h1 | h1
      · exact h1
      · subst h1; exact absurd hgy hy

/-- Outside every slab the buffer holds what it held. -/
theorem Laid.read_of_not_mem {G : s.Idx → Val e} {off : ℕ → Fin s.rank → ℕ} {size : Fin s.rank → ℕ} (y : s.Idx) :
    ∀ (n : ℕ) (L : List (View.Piece Val s e)), Laid G off size n L →
      (∀ g < n, ∃ a, (y a).val < off g a ∨ off g a + size a ≤ (y a).val) →
      v.read Val (v.writes Val f L) y = v.read Val f y
  | 0, L, hL, _ => by rw [show L = [] from hL]; rfl
  | n + 1, L, hL, h => by
    obtain ⟨o, inb, w, L', rfl, ho, hw, hL'⟩ := hL
    obtain ⟨a, ha⟩ := h n (Nat.lt_succ_self n)
    rw [View.read_writes_cons_unit_of_not_mem v f inb w L' y ho a ha]
    exact Laid.read_of_not_mem y n L' hL' fun g hg => h g (Nat.lt_succ_of_lt hg)

/-- A buffer filled by its slabs holds `G`. -/
theorem Laid.read_eq {G : s.Idx → Val e} {off : ℕ → Fin s.rank → ℕ} {size : Fin s.rank → ℕ} {n : ℕ}
    {L : List (View.Piece Val s e)} (hL : Laid G off size n L)
    (h : ∀ y : s.Idx, ∃ g < n, ∀ a, off g a ≤ (y a).val ∧ (y a).val < off g a + size a) :
    v.read Val (v.writes Val f L) = G := funext fun y => hL.read_of_mem v f y n L (h y)

end Laid

/-! ## One group of 128 -/

/-- Token group `g` of a tile: 128 features of 256 tokens. -/
def grpX (x0 : Vec F S1x5120x256 .bf16) (g : ℕ) : Vec F S1x128x256 .bf16 := fun z =>
  x0 (ix3 0 ⟨(128 * g + (z 1).val) % 5120, Nat.mod_lt _ (by decide)⟩ (z 2))

/-- Weight group `g` of a tile: 128 features of 384 rows. -/
def grpW (x1 : Vec F S384x5120 .bf16) (g : ℕ) : Vec F S384x128 .bf16 := fun z =>
  x1 (ix2 (z 0) ⟨(128 * g + (z 1).val) % 5120, Nat.mod_lt _ (by decide)⟩)

/-- A token group's scales, … -/
def sX (v : Vec F S1x128x256 .bf16) : Vec F S1x1x256 .f32 := k0_pay8 (k0_pay4 v)
/-- … its codes … -/
def cX (v : Vec F S1x128x256 .bf16) : Vec F S1x128x256 .fp8e4m3 := k0_pay9 (k0_pay5 v) k0_pay6
/-- … and what the codes stand for. -/
def dX (v : Vec F S1x128x256 .bf16) : Vec F S128x256 .bf16 := k0_pay10 (k0_pay4 v) (k0_pay5 v) k0_pay6
/-- A weight group's scales, … -/
def sW (v : Vec F S384x128 .bf16) : Vec F S1x384 .f32 := k0_pay347 v
/-- … its codes … -/
def cW (v : Vec F S384x128 .bf16) : Vec F S384x128 .fp8e4m3 := k0_pay350 v (k0_pay349 v)
/-- … and what the codes stand for. -/
def dW (v : Vec F S384x128 .bf16) : Vec F S384x128 .bf16 := k0_pay351 v (k0_pay348 v) (k0_pay349 v)

/-! ## A whole tile, group by group -/

/-- A token tile's scales, … -/
def XS (x0 : Vec F S1x5120x256 .bf16) : Vec F S1x40x256 .f32 := fun y => sX (grpX x0 (y 1).val) (ix3 0 0 (y 2))
/-- … codes … -/
def XC (x0 : Vec F S1x5120x256 .bf16) : Vec F S1x5120x256 .fp8e4m3 := fun y =>
  cX (grpX x0 ((y 1).val / 128)) (ix3 0 ⟨(y 1).val % 128, Nat.mod_lt _ (by decide)⟩ (y 2))
/-- … and dequantised codes. -/
def XQ (x0 : Vec F S1x5120x256 .bf16) : Vec F S5120x256 .bf16 := fun y =>
  dX (grpX x0 ((y 0).val / 128)) (ix2 ⟨(y 0).val % 128, Nat.mod_lt _ (by decide)⟩ (y 1))
/-- A weight tile's scales, … -/
def WS (x1 : Vec F S384x5120 .bf16) : Vec F S40x384 .f32 := fun y => sW (grpW x1 (y 0).val) (ix2 0 (y 1))
/-- … codes … -/
def WC (x1 : Vec F S384x5120 .bf16) : Vec F S384x5120 .fp8e4m3 := fun y =>
  cW (grpW x1 ((y 1).val / 128)) (ix2 (y 0) ⟨(y 1).val % 128, Nat.mod_lt _ (by decide)⟩)
/-- … and dequantised codes. -/
def WQ (x1 : Vec F S384x5120 .bf16) : Vec F S384x5120 .bf16 := fun y =>
  dW (grpW x1 ((y 1).val / 128)) (ix2 (y 0) ⟨(y 1).val % 128, Nat.mod_lt _ (by decide)⟩)

/-- Tile `n` of the dequantised weights put in its 384 rows. -/
def putW (n : ℕ) (W : Vec F S384x5120 .bf16) (d : Vec F S3456x5120 .bf16) : Vec F S3456x5120 .bf16 := fun y =>
  if 384 * n ≤ (y 0).val ∧ (y 0).val < 384 * n + 384 then
    W (ix2 ⟨((y 0).val - 384 * n) % 384, Nat.mod_lt _ (by decide)⟩ (y 1))
  else d y

/-- Tile `n` of the dequantised weights read back. -/
def getW (n : ℕ) (d : Vec F S3456x5120 .bf16) : Vec F S384x5120 .bf16 := fun y =>
  d (ix2 ⟨(384 * n + (y 0).val) % 3456, Nat.mod_lt _ (by decide)⟩ (y 1))

/-! ## The loads -/

section Loads
variable {κ : Kind}

theorem load_grpX (arg : Memref sig κ .vmem S1x5120x256 .bf16) (harg : arg.IsWhole) (x0 : Vec F S1x5120x256 .bf16)
    (g : ℕ) (hg : g < 40) (o : Fin 3 → ℕ) (ho : o = ![0, 128 * g, 0]) (inb : ∀ a, o a + S1x128x256.size a ≤ S1x5120x256.size a) :
    View.readAt (Elt F) arg.view (Rect.unit (s := S1x5120x256) o S1x128x256.size inb).toLoadRect (harg.unread x0) = grpX x0 g := by
  subst ho
  funext z
  rw [Memref.IsWhole.readAt_unread]
  refine congrArg x0 (funext fun a => Fin.ext ?_)
  have h1 : (z 1).val < 128 := (z 1).isLt
  match a with
  | ⟨0, _⟩ => exact (by have h0 : (z 0).val < 1 := (z 0).isLt; show 0 + 1 * (z 0).val = 0; omega)
  | ⟨1, _⟩ => exact (by show 128 * g + 1 * (z 1).val = (128 * g + (z 1).val) % 5120; omega)
  | ⟨2, _⟩ => exact (by show 0 + 1 * (z 2).val = (z 2).val; omega)

theorem load_grpW (arg : Memref sig κ .vmem S384x5120 .bf16) (harg : arg.IsWhole) (x1 : Vec F S384x5120 .bf16)
    (g : ℕ) (hg : g < 40) (o : Fin 2 → ℕ) (ho : o = ![0, 128 * g]) (inb : ∀ a, o a + S384x128.size a ≤ S384x5120.size a) :
    View.readAt (Elt F) arg.view (Rect.unit (s := S384x5120) o S384x128.size inb).toLoadRect (harg.unread x1) = grpW x1 g := by
  subst ho
  funext z
  rw [Memref.IsWhole.readAt_unread]
  refine congrArg x1 (funext fun a => Fin.ext ?_)
  have h1 : (z 1).val < 128 := (z 1).isLt
  match a with
  | ⟨0, _⟩ => exact (by show 0 + 1 * (z 0).val = (z 0).val; omega)
  | ⟨1, _⟩ => exact (by show 128 * g + 1 * (z 1).val = (128 * g + (z 1).val) % 5120; omega)

end Loads

/-! ## The stores -/

/-- Slab offsets: scales of a token tile, … -/
def offXS (g : ℕ) : Fin 3 → ℕ := ![0, g, 0]
/-- … its codes, … -/
def offXC (g : ℕ) : Fin 3 → ℕ := ![0, 128 * g, 0]
/-- … its dequantised codes, … -/
def offXQ (g : ℕ) : Fin 2 → ℕ := ![128 * g, 0]
/-- … scales of a weight tile, … -/
def offWS (g : ℕ) : Fin 2 → ℕ := ![g, 0]
/-- … its codes, … -/
def offWC (g : ℕ) : Fin 2 → ℕ := ![0, 128 * g]
/-- … and its dequantised codes, from row `384 * n` on. -/
def offWQ (n g : ℕ) : Fin 2 → ℕ := ![384 * n, 128 * g]

section Stores
variable {κ : Kind}

theorem slab_XS (arg : Memref sig κ .vmem S1x5120x256 .bf16) (harg : arg.IsWhole) (x0 : Vec F S1x5120x256 .bf16)
    (g : ℕ) (hg : g < 40) (o : Fin 3 → ℕ) (ho : o = ![0, 128 * g, 0]) (inb : ∀ a, o a + S1x128x256.size a ≤ S1x5120x256.size a)
    (x : S1x1x256.Idx) (y : S1x40x256.Idx) (hy : ∀ a, (y a).val = offXS g a + (x a).val) :
    sX (View.readAt (Elt F) arg.view (Rect.unit (s := S1x5120x256) o S1x128x256.size inb).toLoadRect (harg.unread x0)) x
      = XS x0 y := by
  rw [load_grpX arg harg x0 g hg o ho inb]
  have h1 : (y 1).val = g + (x 1).val := hy 1
  have h2 : (y 2).val = 0 + (x 2).val := hy 2
  have hx0 : (x 0).val < 1 := (x 0).isLt
  have hx1 : (x 1).val < 1 := (x 1).isLt
  have e1 : (y 1).val = g := by omega
  have e : x = ix3 0 0 (y 2) := by
    refine (eq_ix3 x).trans ?_
    have a0 : x 0 = (0 : Fin 1) := Fin.ext (by show (x 0).val = 0; omega)
    have a1 : x 1 = (0 : Fin 1) := Fin.ext (by show (x 1).val = 0; omega)
    have a2 : x 2 = y 2 := Fin.ext (by omega)
    rw [a0, a1, a2] <;> rfl
  show sX (grpX x0 g) x = sX (grpX x0 (y 1).val) (ix3 0 0 (y 2))
  rw [e1, e] <;> rfl

theorem slab_XC (arg : Memref sig κ .vmem S1x5120x256 .bf16) (harg : arg.IsWhole) (x0 : Vec F S1x5120x256 .bf16)
    (g : ℕ) (hg : g < 40) (o : Fin 3 → ℕ) (ho : o = ![0, 128 * g, 0]) (inb : ∀ a, o a + S1x128x256.size a ≤ S1x5120x256.size a)
    (x : S1x128x256.Idx) (y : S1x5120x256.Idx) (hy : ∀ a, (y a).val = offXC g a + (x a).val) :
    cX (View.readAt (Elt F) arg.view (Rect.unit (s := S1x5120x256) o S1x128x256.size inb).toLoadRect (harg.unread x0)) x
      = XC x0 y := by
  rw [load_grpX arg harg x0 g hg o ho inb]
  have h1 : (y 1).val = 128 * g + (x 1).val := hy 1
  have h2 : (y 2).val = 0 + (x 2).val := hy 2
  have hx0 : (x 0).val < 1 := (x 0).isLt
  have hx1 : (x 1).val < 128 := (x 1).isLt
  have e1 : (y 1).val / 128 = g := by omega
  have e : x = ix3 0 ⟨(y 1).val % 128, Nat.mod_lt _ (by decide)⟩ (y 2) := by
    refine (eq_ix3 x).trans ?_
    have a0 : x 0 = (0 : Fin 1) := Fin.ext (by show (x 0).val = 0; omega)
    have a1 : x 1 = ⟨(y 1).val % 128, Nat.mod_lt _ (by decide)⟩ := Fin.ext (by show (x 1).val = (y 1).val % 128; omega)
    have a2 : x 2 = y 2 := Fin.ext (by omega)
    rw [a0, a1, a2] <;> rfl
  show cX (grpX x0 g) x = cX (grpX x0 ((y 1).val / 128)) (ix3 0 ⟨(y 1).val % 128, Nat.mod_lt _ (by decide)⟩ (y 2))
  rw [e1, e] <;> rfl

theorem slab_XQ (arg : Memref sig κ .vmem S1x5120x256 .bf16) (harg : arg.IsWhole) (x0 : Vec F S1x5120x256 .bf16)
    (g : ℕ) (hg : g < 40) (o : Fin 3 → ℕ) (ho : o = ![0, 128 * g, 0]) (inb : ∀ a, o a + S1x128x256.size a ≤ S1x5120x256.size a)
    (x : S128x256.Idx) (y : S5120x256.Idx) (hy : ∀ a, (y a).val = offXQ g a + (x a).val) :
    dX (View.readAt (Elt F) arg.view (Rect.unit (s := S1x5120x256) o S1x128x256.size inb).toLoadRect (harg.unread x0)) x
      = XQ x0 y := by
  rw [load_grpX arg harg x0 g hg o ho inb]
  have h1 : (y 0).val = 128 * g + (x 0).val := hy 0
  have h2 : (y 1).val = 0 + (x 1).val := hy 1
  have hx1 : (x 0).val < 128 := (x 0).isLt
  have e1 : (y 0).val / 128 = g := by omega
  have e : x = ix2 ⟨(y 0).val % 128, Nat.mod_lt _ (by decide)⟩ (y 1) := by
    refine (eq_ix2 x).trans ?_
    have a1 : x 0 = ⟨(y 0).val % 128, Nat.mod_lt _ (by decide)⟩ := Fin.ext (by show (x 0).val = (y 0).val % 128; omega)
    have a2 : x 1 = y 1 := Fin.ext (by omega)
    rw [a1, a2] <;> rfl
  show dX (grpX x0 g) x = dX (grpX x0 ((y 0).val / 128)) (ix2 ⟨(y 0).val % 128, Nat.mod_lt _ (by decide)⟩ (y 1))
  rw [e1, e] <;> rfl

theorem slab_WS (arg : Memref sig κ .vmem S384x5120 .bf16) (harg : arg.IsWhole) (x1 : Vec F S384x5120 .bf16)
    (g : ℕ) (hg : g < 40) (o : Fin 2 → ℕ) (ho : o = ![0, 128 * g]) (inb : ∀ a, o a + S384x128.size a ≤ S384x5120.size a)
    (x : S1x384.Idx) (y : S40x384.Idx) (hy : ∀ a, (y a).val = offWS g a + (x a).val) :
    sW (View.readAt (Elt F) arg.view (Rect.unit (s := S384x5120) o S384x128.size inb).toLoadRect (harg.unread x1)) x
      = WS x1 y := by
  rw [load_grpW arg harg x1 g hg o ho inb]
  have h1 : (y 0).val = g + (x 0).val := hy 0
  have h2 : (y 1).val = 0 + (x 1).val := hy 1
  have hx0 : (x 0).val < 1 := (x 0).isLt
  have e1 : (y 0).val = g := by omega
  have e : x = ix2 0 (y 1) := by
    refine (eq_ix2 x).trans ?_
    have a0 : x 0 = (0 : Fin 1) := Fin.ext (by show (x 0).val = 0; omega)
    have a2 : x 1 = y 1 := Fin.ext (by omega)
    rw [a0, a2] <;> rfl
  show sW (grpW x1 g) x = sW (grpW x1 (y 0).val) (ix2 0 (y 1))
  rw [e1, e] <;> rfl

theorem slab_WC (arg : Memref sig κ .vmem S384x5120 .bf16) (harg : arg.IsWhole) (x1 : Vec F S384x5120 .bf16)
    (g : ℕ) (hg : g < 40) (o : Fin 2 → ℕ) (ho : o = ![0, 128 * g]) (inb : ∀ a, o a + S384x128.size a ≤ S384x5120.size a)
    (x : S384x128.Idx) (y : S384x5120.Idx) (hy : ∀ a, (y a).val = offWC g a + (x a).val) :
    cW (View.readAt (Elt F) arg.view (Rect.unit (s := S384x5120) o S384x128.size inb).toLoadRect (harg.unread x1)) x
      = WC x1 y := by
  rw [load_grpW arg harg x1 g hg o ho inb]
  have h1 : (y 1).val = 128 * g + (x 1).val := hy 1
  have h2 : (y 0).val = 0 + (x 0).val := hy 0
  have hx1 : (x 1).val < 128 := (x 1).isLt
  have e1 : (y 1).val / 128 = g := by omega
  have e : x = ix2 (y 0) ⟨(y 1).val % 128, Nat.mod_lt _ (by decide)⟩ := by
    refine (eq_ix2 x).trans ?_
    have a1 : x 1 = ⟨(y 1).val % 128, Nat.mod_lt _ (by decide)⟩ := Fin.ext (by show (x 1).val = (y 1).val % 128; omega)
    have a2 : x 0 = y 0 := Fin.ext (by omega)
    rw [a1, a2] <;> rfl
  show cW (grpW x1 g) x = cW (grpW x1 ((y 1).val / 128)) (ix2 (y 0) ⟨(y 1).val % 128, Nat.mod_lt _ (by decide)⟩)
  rw [e1, e] <;> rfl

theorem slab_WQ (arg : Memref sig κ .vmem S384x5120 .bf16) (harg : arg.IsWhole) (x1 : Vec F S384x5120 .bf16)
    (d : Vec F S3456x5120 .bf16) (n : ℕ)
    (g : ℕ) (hg : g < 40) (o : Fin 2 → ℕ) (ho : o = ![0, 128 * g]) (inb : ∀ a, o a + S384x128.size a ≤ S384x5120.size a)
    (x : S384x128.Idx) (y : S3456x5120.Idx) (hy : ∀ a, (y a).val = offWQ n g a + (x a).val) :
    dW (View.readAt (Elt F) arg.view (Rect.unit (s := S384x5120) o S384x128.size inb).toLoadRect (harg.unread x1)) x
      = putW n (WQ x1) d y := by
  rw [load_grpW arg harg x1 g hg o ho inb]
  have h1 : (y 1).val = 128 * g + (x 1).val := hy 1
  have h2 : (y 0).val = 384 * n + (x 0).val := hy 0
  have hx1 : (x 1).val < 128 := (x 1).isLt
  have hx0 : (x 0).val < 384 := (x 0).isLt
  have e1 : (y 1).val / 128 = g := by omega
  have e : x = ix2 ⟨((y 0).val - 384 * n) % 384, Nat.mod_lt _ (by decide)⟩ ⟨(y 1).val % 128, Nat.mod_lt _ (by decide)⟩ := by
    refine (eq_ix2 x).trans ?_
    have a1 : x 1 = ⟨(y 1).val % 128, Nat.mod_lt _ (by decide)⟩ := Fin.ext (by show (x 1).val = (y 1).val % 128; omega)
    have a2 : x 0 = ⟨((y 0).val - 384 * n) % 384, Nat.mod_lt _ (by decide)⟩ :=
      Fin.ext (by show (x 0).val = ((y 0).val - 384 * n) % 384; omega)
    rw [a1, a2] <;> rfl
  refine Eq.trans ?_ (if_pos (by omega : 384 * n ≤ (y 0).val ∧ (y 0).val < 384 * n + 384)).symm
  show dW (grpW x1 g) x = dW (grpW x1 ((y 1).val / 128))
    (ix2 ⟨((y 0).val - 384 * n) % 384, Nat.mod_lt _ (by decide)⟩ ⟨(y 1).val % 128, Nat.mod_lt _ (by decide)⟩)
  rw [e1, e] <;> rfl

end Stores

/-! ## The slabs fill their arrays -/

theorem fill_XS (y : S1x40x256.Idx) : ∃ g < 40, ∀ a, offXS g a ≤ (y a).val ∧ (y a).val < offXS g a + S1x1x256.size a := by
  have h0 : (y 0).val < 1 := (y 0).isLt
  have h1 : (y 1).val < 40 := (y 1).isLt
  have h2 : (y 2).val < 256 := (y 2).isLt
  refine ⟨(y 1).val, h1, fun a => ?_⟩
  match a with
  | ⟨0, _⟩ => exact (by show 0 ≤ (y 0).val ∧ (y 0).val < 0 + 1; omega)
  | ⟨1, _⟩ => exact (by show (y 1).val ≤ (y 1).val ∧ (y 1).val < (y 1).val + 1; omega)
  | ⟨2, _⟩ => exact (by show 0 ≤ (y 2).val ∧ (y 2).val < 0 + 256; omega)

theorem fill_XC (y : S1x5120x256.Idx) : ∃ g < 40, ∀ a, offXC g a ≤ (y a).val ∧ (y a).val < offXC g a + S1x128x256.size a := by
  have h0 : (y 0).val < 1 := (y 0).isLt
  have h1 : (y 1).val < 5120 := (y 1).isLt
  have h2 : (y 2).val < 256 := (y 2).isLt
  refine ⟨(y 1).val / 128, by omega, fun a => ?_⟩
  match a with
  | ⟨0, _⟩ => exact (by show 0 ≤ (y 0).val ∧ (y 0).val < 0 + 1; omega)
  | ⟨1, _⟩ => exact (by show 128 * ((y 1).val / 128) ≤ (y 1).val ∧ (y 1).val < 128 * ((y 1).val / 128) + 128; omega)
  | ⟨2, _⟩ => exact (by show 0 ≤ (y 2).val ∧ (y 2).val < 0 + 256; omega)

theorem fill_XQ (y : S5120x256.Idx) : ∃ g < 40, ∀ a, offXQ g a ≤ (y a).val ∧ (y a).val < offXQ g a + S128x256.size a := by
  have h1 : (y 0).val < 5120 := (y 0).isLt
  have h2 : (y 1).val < 256 := (y 1).isLt
  refine ⟨(y 0).val / 128, by omega, fun a => ?_⟩
  match a with
  | ⟨0, _⟩ => exact (by show 128 * ((y 0).val / 128) ≤ (y 0).val ∧ (y 0).val < 128 * ((y 0).val / 128) + 128; omega)
  | ⟨1, _⟩ => exact (by show 0 ≤ (y 1).val ∧ (y 1).val < 0 + 256; omega)

theorem fill_WS (y : S40x384.Idx) : ∃ g < 40, ∀ a, offWS g a ≤ (y a).val ∧ (y a).val < offWS g a + S1x384.size a := by
  have h1 : (y 0).val < 40 := (y 0).isLt
  have h2 : (y 1).val < 384 := (y 1).isLt
  refine ⟨(y 0).val, h1, fun a => ?_⟩
  match a with
  | ⟨0, _⟩ => exact (by show (y 0).val ≤ (y 0).val ∧ (y 0).val < (y 0).val + 1; omega)
  | ⟨1, _⟩ => exact (by show 0 ≤ (y 1).val ∧ (y 1).val < 0 + 384; omega)

theorem fill_WC (y : S384x5120.Idx) : ∃ g < 40, ∀ a, offWC g a ≤ (y a).val ∧ (y a).val < offWC g a + S384x128.size a := by
  have h1 : (y 1).val < 5120 := (y 1).isLt
  have h2 : (y 0).val < 384 := (y 0).isLt
  refine ⟨(y 1).val / 128, by omega, fun a => ?_⟩
  match a with
  | ⟨0, _⟩ => exact (by show 0 ≤ (y 0).val ∧ (y 0).val < 0 + 384; omega)
  | ⟨1, _⟩ => exact (by show 128 * ((y 1).val / 128) ≤ (y 1).val ∧ (y 1).val < 128 * ((y 1).val / 128) + 128; omega)

/-- The dequantised weights after a tile's stores: that tile's rows are new, the others are as before. -/
theorem read_putW {κ : Kind} {sp : Space} (v : View sig κ sp S3456x5120 .bf16) (f : v.ty.Contents (Elt F)) (n : ℕ) (W : Vec F S384x5120 .bf16)
    (d : Vec F S3456x5120 .bf16) (hf : v.read (Elt F) f = d) (L : List (View.Piece (Elt F) S3456x5120 .bf16))
    (hL : Laid (putW n W d) (offWQ n) S384x128.size 40 L) : v.read (Elt F) (v.writes (Elt F) f L) = putW n W d := by
  funext y
  have h1 : (y 1).val < 5120 := (y 1).isLt
  by_cases h : 384 * n ≤ (y 0).val ∧ (y 0).val < 384 * n + 384
  · refine hL.read_of_mem v f y 40 L ⟨(y 1).val / 128, by omega, fun a => ?_⟩
    match a with
    | ⟨0, _⟩ => exact h
    | ⟨1, _⟩ => exact (by show 128 * ((y 1).val / 128) ≤ (y 1).val ∧ (y 1).val < 128 * ((y 1).val / 128) + 128; omega)
  · refine (hL.read_of_not_mem v f y 40 L fun g _ => ⟨0, ?_⟩).trans ?_
    · show (y 0).val < 384 * n ∨ 384 * n + 384 ≤ (y 0).val
      omega
    · rw [hf]; exact (if_neg h).symm

/-- The product tile after its one store. -/
theorem read_y {κ : Kind} {sp : Space} (v : View sig κ sp S1x256x384 .bf16) (f : v.ty.Contents (Elt F))
    (inb : ∀ a, (![0, 0, 0] : Fin 3 → ℕ) a + S1x256x384.size a ≤ S1x256x384.size a) {A A' : Vec F S384x5120 .bf16} {B B' : Vec F S5120x256 .bf16}
    (hA : A = A') (hB : B = B') :
    v.read (Elt F) (v.writes (Elt F) f [⟨Rect.unit (s := S1x256x384) ![0, 0, 0] S1x256x384.size inb, k0_pay1 A B⟩]) = k0_pay1 A' B' := by
  subst hA hB
  exact View.read_writes_full v f inb (k0_pay1 A B) []

/-- Reading the whole dequantised token tile. -/
theorem load_full {κ : Kind} {sp : Space} (v : View sig κ sp S5120x256 .bf16) (f : v.ty.Contents (Elt F))
    (inb : ∀ a, (![0, 0] : Fin 2 → ℕ) a + S5120x256.size a ≤ S5120x256.size a) :
    View.readAt (Elt F) v (Rect.unit (s := S5120x256) ![0, 0] S5120x256.size inb).toLoadRect f = v.read (Elt F) f := by
  funext z
  refine congrArg (v.read (Elt F) f) (funext fun a => Fin.ext ?_)
  match a with
  | ⟨0, _⟩ => exact (by show 0 + 1 * (z 0).val = (z 0).val; omega)
  | ⟨1, _⟩ => exact (by show 0 + 1 * (z 1).val = (z 1).val; omega)

/-- Reading a tile's rows. -/
theorem load_getW {κ : Kind} {sp : Space} (v : View sig κ sp S3456x5120 .bf16) (f : v.ty.Contents (Elt F)) (n : ℕ) (hn : n < 9)
    (o : Fin 2 → ℕ) (ho : o = ![384 * n, 0]) (inb : ∀ a, o a + S384x5120.size a ≤ S3456x5120.size a) :
    View.readAt (Elt F) v (Rect.unit (s := S3456x5120) o S384x5120.size inb).toLoadRect f = getW n (v.read (Elt F) f) := by
  subst ho
  funext z
  refine congrArg (v.read (Elt F) f) (funext fun a => Fin.ext ?_)
  have h0 : (z 0).val < 384 := (z 0).isLt
  match a with
  | ⟨0, _⟩ => exact (by show 384 * n + 1 * (z 0).val = (384 * n + (z 0).val) % 3456; omega)
  | ⟨1, _⟩ => exact (by show 0 + 1 * (z 1).val = (z 1).val; omega)

theorem getW_putW (n : ℕ) (hn : n < 9) (W : Vec F S384x5120 .bf16) (d : Vec F S3456x5120 .bf16) : getW n (putW n W d) = W := by
  funext z
  have h0 : (z 0).val < 384 := (z 0).isLt
  have e : (384 * n + (z 0).val) % 3456 = 384 * n + (z 0).val := by omega
  refine (if_pos ?_).trans (congrArg W ?_)
  · show 384 * n ≤ (384 * n + (z 0).val) % 3456 ∧ (384 * n + (z 0).val) % 3456 < 384 * n + 384
    omega
  · refine Eq.trans ?_ (eq_ix2 z).symm
    exact congrArg (fun i => ix2 i (z 1)) (Fin.ext (by show ((384 * n + (z 0).val) % 3456 - 384 * n) % 384 = (z 0).val; omega))

end Cert.KernelIdeal.Gen

end
-- ==== Proof.KI.RunA.lean ====
/-
  One run of the kernel body with every buffer named: the first point: both tiles are quantised.
-/
module

public import proofs.«01_k».proof.Proof.KI.Runs
public import proofs.«01_k».proof.Proof.KI.Blocks

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4692000 in
theorem bodyRun_A (c : Dev nD) (i : grid0.Coords) (arg2 : Memref sig .tc .vmem S1x5120x256 .bf16) (harg2 : arg2.IsWhole) (arg3 : Memref sig .tc .vmem S384x5120 .bf16) (harg3 : arg3.IsWhole) (arg4 : Memref sig .tc .vmem S1x256x384 .bf16) (harg4 : arg4.IsWhole) (arg5 : Memref sig .tc .vmem S1x5120x256 .fp8e4m3) (harg5 : arg5.IsWhole) (arg6 : Memref sig .tc .vmem S1x40x256 .f32) (harg6 : arg6.IsWhole) (arg7 : Memref sig .tc .vmem S384x5120 .fp8e4m3) (harg7 : arg7.IsWhole) (arg8 : Memref sig .tc .vmem S40x384 .f32) (harg8 : arg8.IsWhole) (arg9 : Memref sig .tc .vmem S5120x256 .bf16) (harg9 : arg9.IsWhole) (arg10 : Memref sig .tc .vmem S3456x5120 .bf16) (harg10 : arg10.IsWhole) (hc0 : cond0_0 i) (hc1 : cond0_1 i)
    (x0 : Vec F S1x5120x256 .bf16) (x1 : Vec F S384x5120 .bf16) (d2 : Vec F S1x256x384 .bf16)
    (d3 : Vec F S1x5120x256 .fp8e4m3) (d4 : Vec F S1x40x256 .f32) (d5 : Vec F S384x5120 .fp8e4m3) (d6 : Vec F S40x384 .f32)
    (e : Vec F S5120x256 .bf16) (d : Vec F S3456x5120 .bf16) :
      ∀ (E : Set ℕ) (K : PUnit → sProp 𝕄),
        iprop(owns (c : Thread nD τ) arg2 fullShare x0
            ∗ owns (c : Thread nD τ) arg3 fullShare x1
            ∗ owns (c : Thread nD τ) arg4 fullShare d2
            ∗ owns (c : Thread nD τ) arg5 fullShare d3
            ∗ owns (c : Thread nD τ) arg6 fullShare d4
            ∗ owns (c : Thread nD τ) arg7 fullShare d5
            ∗ owns (c : Thread nD τ) arg8 fullShare d6
            ∗ owns (c : Thread nD τ) arg9 fullShare e
            ∗ owns (c : Thread nD τ) arg10 fullShare d
            ∗ (iprop(owns (c : Thread nD τ) arg2 fullShare x0
              ∗ owns (c : Thread nD τ) arg3 fullShare x1
              ∗ owns (c : Thread nD τ) arg4 fullShare (k0_pay1 (WQ x1) (XQ x0))
              ∗ owns (c : Thread nD τ) arg5 fullShare (XC x0)
              ∗ owns (c : Thread nD τ) arg6 fullShare (XS x0)
              ∗ owns (c : Thread nD τ) arg7 fullShare (WC x1)
              ∗ owns (c : Thread nD τ) arg8 fullShare (WS x1)
              ∗ owns (c : Thread nD τ) arg9 fullShare (XQ x0)
              ∗ owns (c : Thread nD τ) arg10 fullShare (putW (i 1).val (WQ x1) d)) -∗ K ⟨⟩))
          ⊢ wp frame (wpE (defs₀ (F := F)) Variants.none c none) E (cc0_fp8_group_linear i arg2 harg2 arg3 harg3 arg4 harg4 arg5 harg5 arg6 harg6 arg7 harg7 arg8 harg8 arg9 harg9 arg10 harg10) K := by
    intro E K
    simp only [cc0_fp8_group_linear_eq_skeleton]; unfold cc0_fp8_group_linear_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton]
    unfold owns
    iintro ⟨⟨%f0, %hf0, H0⟩, ⟨%f1, %hf1, H1⟩, ⟨%f2, -, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1
    sl_exec (disch := first | sl_exact hc0 | sl_exact hc1)
    have hn : (i 1).val < 9 := (i 1).isLt
    have hXQ : Laid (Val := Elt F) (XQ x0) offXQ S128x256.size 40 (bodyRun_A.sl.HS0_40 c arg2 harg2 x0) := by
      refine Laid.cons _ _ _ (rfl) (slab_XQ arg2 harg2 x0 39 (by decide) ![0, 4992, 0] rfl inb_S1x5120x256_S1x128x256_0_4992_0) ?_
      refine Laid.cons _ _ _ (rfl) (slab_XQ arg2 harg2 x0 38 (by decide) ![0, 4864, 0] rfl inb_S1x5120x256_S1x128x256_0_4864_0) ?_
      refine Laid.cons _ _ _ (rfl) (slab_XQ arg2 harg2 x0 37 (by decide) ![0, 4736, 0] rfl inb_S1x5120x256_S1x128x256_0_4736_0) ?_
      refine Laid.cons _ _ _ (rfl) (slab_XQ arg2 harg2 x0 36 (by decide) ![0, 4608, 0] rfl inb_S1x5120x256_S1x128x256_0_4608_0) ?_
      refine Laid.cons _ _ _ (rfl) (slab_XQ arg2 harg2 x0 35 (by decide) ![0, 4480, 0] rfl inb_S1x5120x256_S1x128x256_0_4480_0) ?_
      refine Laid.cons _ _ _ (rfl) (slab_XQ arg2 harg2 x0 34 (by decide) ![0, 4352, 0] rfl inb_S1x5120x256_S1x128x256_0_4352_0) ?_
      refine Laid.cons _ _ _ (rfl) (slab_XQ arg2 harg2 x0 33 (by decide) ![0, 4224, 0] rfl inb_S1x5120x256_S1x128x256_0_4224_0) ?_
      refine Laid.cons _ _ _ (rfl) (slab_XQ arg2 harg2 x0 32 (by decide) ![0, 4096, 0] rfl inb_S1x5120x256_S1x128x256_0_4096_0) ?_
      refine Laid.cons _ _ _ (rfl) (slab_XQ arg2 harg2 x0 31 (by decide) ![0, 3968, 0] rfl inb_S1x5120x256_S1x128x256_0_3968_0) ?_
      refine Laid.cons _ _ _ (rfl) (slab_XQ arg2 harg2 x0 30 (by decide) ![0, 3840, 0] rfl inb_S1x5120x256_S1x128x256_0_3840_0) ?_
      refine Laid.cons _ _ _ (rfl) (slab_XQ arg2 harg2 x0 29 (by decide) ![0, 3712, 0] rfl inb_S1x5120x256_S1x128x256_0_3712_0) ?_
      refine Laid.cons _ _ _ (rfl) (slab_XQ arg2 harg2 x0 28 (by decide) ![0, 3584, 0] rfl inb_S1x5120x256_S1x128x256_0_3584_0) ?_
      refine Laid.cons _ _ _ (rfl) (slab_XQ arg2 harg2 x0 27 (by decide) ![0, 3456, 0] rfl inb_S1x5120x256_S1x128x256_0_3456_0) ?_
      refine Laid.cons _ _ _ (rfl) (slab_XQ arg2 harg2 x0 26 (by decide) ![0, 3328, 0] rfl inb_S1x5120x256_S1x128x256_0_3328_0) ?_
      refine Laid.cons _ _ _ (rfl) (slab_XQ arg2 harg2 x0 25 (by decide) ![0, 3200, 0] rfl inb_S1x5120x256_S1x128x256_0_3200_0) ?_
      refine Laid.cons _ _ _ (rfl) (slab_XQ arg2 harg2 x0 24 (by decide) ![0, 3072, 0] rfl inb_S1x5120x256_S1x128x256_0_3072_0) ?_
      refine Laid.cons _ _ _ (rfl) (slab_XQ arg2 harg2 x0 23 (by decide) ![0, 2944, 0] rfl inb_S1x5120x256_S1x128x256_0_2944_0) ?_
      refine Laid.cons _ _ _ (rfl) (slab_XQ arg2 harg2 x0 22 (by decide) ![0, 2816, 0] rfl inb_S1x5120x256_S1x128x256_0_2816_0) ?_
      refine Laid.cons _ _ _ (rfl) (slab_XQ arg2 harg2 x0 21 (by decide) ![0, 2688, 0] rfl inb_S1x5120x256_S1x128x256_0_2688_0) ?_
      refine Laid.cons _ _ _ (rfl) (slab_XQ arg2 harg2 x0 20 (by decide) ![0, 2560, 0] rfl inb_S1x5120x256_S1x128x256_0_2560_0) ?_
      refine Laid.cons _ _ _ (rfl) (slab_XQ arg2 harg2 x0 19 (by decide) ![0, 2432, 0] rfl inb_S1x5120x256_S1x128x256_0_2432_0) ?_
      refine Laid.cons _ _ _ (rfl) (slab_XQ arg2 harg2 x0 18 (by decide) ![0, 2304, 0] rfl inb_S1x5120x256_S1x128x256_0_2304_0) ?_
      refine Laid.cons _ _ _ (rfl) (slab_XQ arg2 harg2 x0 17 (by decide) ![0, 2176, 0] rfl inb_S1x5120x256_S1x128x256_0_2176_0) ?_
      refine Laid.cons _ _ _ (rfl) (slab_XQ arg2 harg2 x0 16 (by decide) ![0, 2048, 0] rfl inb_S1x5120x256_S1x128x256_0_2048_0) ?_
      refine Laid.cons _ _ _ (rfl) (slab_XQ arg2 harg2 x0 15 (by decide) ![0, 1920, 0] rfl inb_S1x5120x256_S1x128x256_0_1920_0) ?_
      refine Laid.cons _ _ _ (rfl) (slab_XQ arg2 harg2 x0 14 (by decide) ![0, 1792, 0] rfl inb_S1x5120x256_S1x128x256_0_1792_0) ?_
      refine Laid.cons _ _ _ (rfl) (slab_XQ arg2 harg2 x0 13 (by decide) ![0, 1664, 0] rfl inb_S1x5120x256_S1x128x256_0_1664_0) ?_
      refine Laid.cons _ _ _ (rfl) (slab_XQ arg2 harg2 x0 12 (by decide) ![0, 1536, 0] rfl inb_S1x5120x256_S1x128x256_0_1536_0) ?_
      refine Laid.cons _ _ _ (rfl) (slab_XQ arg2 harg2 x0 11 (by decide) ![0, 1408, 0] rfl inb_S1x5120x256_S1x128x256_0_1408_0) ?_
      refine Laid.cons _ _ _ (rfl) (slab_XQ arg2 harg2 x0 10 (by decide) ![0, 1280, 0] rfl inb_S1x5120x256_S1x128x256_0_1280_0) ?_
      refine Laid.cons _ _ _ (rfl) (slab_XQ arg2 harg2 x0 9 (by decide) ![0, 1152, 0] rfl inb_S1x5120x256_S1x128x256_0_1152_0) ?_
      refine Laid.cons _ _ _ (rfl) (slab_XQ arg2 harg2 x0 8 (by decide) ![0, 1024, 0] rfl inb_S1x5120x256_S1x128x256_0_1024_0) ?_
      refine Laid.cons _ _ _ (rfl) (slab_XQ arg2 harg2 x0 7 (by decide) ![0, 896, 0] rfl inb_S1x5120x256_S1x128x256_0_896_0) ?_
      refine Laid.cons _ _ _ (rfl) (slab_XQ arg2 harg2 x0 6 (by decide) ![0, 768, 0] rfl inb_S1x5120x256_S1x128x256_0_768_0) ?_
      refine Laid.cons _ _ _ (rfl) (slab_XQ arg2 harg2 x0 5 (by decide) ![0, 640, 0] rfl inb_S1x5120x256_S1x128x256_0_640_0) ?_
      refine Laid.cons _ _ _ (rfl) (slab_XQ arg2 harg2 x0 4 (by decide) ![0, 512, 0] rfl inb_S1x5120x256_S1x128x256_0_512_0) ?_
      refine Laid.cons _ _ _ (rfl) (slab_XQ arg2 harg2 x0 3 (by decide) ![0, 384, 0] rfl inb_S1x5120x256_S1x128x256_0_384_0) ?_
      refine Laid.cons _ _ _ (rfl) (slab_XQ arg2 harg2 x0 2 (by decide) ![0, 256, 0] rfl inb_S1x5120x256_S1x128x256_0_256_0) ?_
      refine Laid.cons _ _ _ (rfl) (slab_XQ arg2 harg2 x0 1 (by decide) ![0, 128, 0] rfl inb_S1x5120x256_S1x128x256_0_128_0) ?_
      refine Laid.cons _ _ _ (rfl) (slab_XQ arg2 harg2 x0 0 (by decide) ![0, 0, 0] rfl inb_S1x5120x256_S1x128x256_0_0_0) ?_
      rfl
    have hWQ : ∀ d : Vec F S3456x5120 .bf16, Laid (Val := Elt F) (putW (i 1).val (WQ x1) d) (offWQ (i 1).val) S384x128.size 40 (bodyRun_A.sl.HS1_40 c i arg3 harg3 hc1 x1) := by
      intro d
      refine Laid.cons _ _ _ (k0_off40_eq i) (slab_WQ arg3 harg3 x1 d (i 1).val 39 (by decide) ![0, 4992] rfl inb_S384x5120_S384x128_0_4992) ?_
      refine Laid.cons _ _ _ (k0_off39_eq i) (slab_WQ arg3 harg3 x1 d (i 1).val 38 (by decide) ![0, 4864] rfl inb_S384x5120_S384x128_0_4864) ?_
      refine Laid.cons _ _ _ (k0_off38_eq i) (slab_WQ arg3 harg3 x1 d (i 1).val 37 (by decide) ![0, 4736] rfl inb_S384x5120_S384x128_0_4736) ?_
      refine Laid.cons _ _ _ (k0_off37_eq i) (slab_WQ arg3 harg3 x1 d (i 1).val 36 (by decide) ![0, 4608] rfl inb_S384x5120_S384x128_0_4608) ?_
      refine Laid.cons _ _ _ (k0_off36_eq i) (slab_WQ arg3 harg3 x1 d (i 1).val 35 (by decide) ![0, 4480] rfl inb_S384x5120_S384x128_0_4480) ?_
      refine Laid.cons _ _ _ (k0_off35_eq i) (slab_WQ arg3 harg3 x1 d (i 1).val 34 (by decide) ![0, 4352] rfl inb_S384x5120_S384x128_0_4352) ?_
      refine Laid.cons _ _ _ (k0_off34_eq i) (slab_WQ arg3 harg3 x1 d (i 1).val 33 (by decide) ![0, 4224] rfl inb_S384x5120_S384x128_0_4224) ?_
      refine Laid.cons _ _ _ (k0_off33_eq i) (slab_WQ arg3 harg3 x1 d (i 1).val 32 (by decide) ![0, 4096] rfl inb_S384x5120_S384x128_0_4096) ?_
      refine Laid.cons _ _ _ (k0_off32_eq i) (slab_WQ arg3 harg3 x1 d (i 1).val 31 (by decide) ![0, 3968] rfl inb_S384x5120_S384x128_0_3968) ?_
      refine Laid.cons _ _ _ (k0_off31_eq i) (slab_WQ arg3 harg3 x1 d (i 1).val 30 (by decide) ![0, 3840] rfl inb_S384x5120_S384x128_0_3840) ?_
      refine Laid.cons _ _ _ (k0_off30_eq i) (slab_WQ arg3 harg3 x1 d (i 1).val 29 (by decide) ![0, 3712] rfl inb_S384x5120_S384x128_0_3712) ?_
      refine Laid.cons _ _ _ (k0_off29_eq i) (slab_WQ arg3 harg3 x1 d (i 1).val 28 (by decide) ![0, 3584] rfl inb_S384x5120_S384x128_0_3584) ?_
      refine Laid.cons _ _ _ (k0_off28_eq i) (slab_WQ arg3 harg3 x1 d (i 1).val 27 (by decide) ![0, 3456] rfl inb_S384x5120_S384x128_0_3456) ?_
      refine Laid.cons _ _ _ (k0_off27_eq i) (slab_WQ arg3 harg3 x1 d (i 1).val 26 (by decide) ![0, 3328] rfl inb_S384x5120_S384x128_0_3328) ?_
      refine Laid.cons _ _ _ (k0_off26_eq i) (slab_WQ arg3 harg3 x1 d (i 1).val 25 (by decide) ![0, 3200] rfl inb_S384x5120_S384x128_0_3200) ?_
      refine Laid.cons _ _ _ (k0_off25_eq i) (slab_WQ arg3 harg3 x1 d (i 1).val 24 (by decide) ![0, 3072] rfl inb_S384x5120_S384x128_0_3072) ?_
      refine Laid.cons _ _ _ (k0_off24_eq i) (slab_WQ arg3 harg3 x1 d (i 1).val 23 (by decide) ![0, 2944] rfl inb_S384x5120_S384x128_0_2944) ?_
      refine Laid.cons _ _ _ (k0_off23_eq i) (slab_WQ arg3 harg3 x1 d (i 1).val 22 (by decide) ![0, 2816] rfl inb_S384x5120_S384x128_0_2816) ?_
      refine Laid.cons _ _ _ (k0_off22_eq i) (slab_WQ arg3 harg3 x1 d (i 1).val 21 (by decide) ![0, 2688] rfl inb_S384x5120_S384x128_0_2688) ?_
      refine Laid.cons _ _ _ (k0_off21_eq i) (slab_WQ arg3 harg3 x1 d (i 1).val 20 (by decide) ![0, 2560] rfl inb_S384x5120_S384x128_0_2560) ?_
      refine Laid.cons _ _ _ (k0_off20_eq i) (slab_WQ arg3 harg3 x1 d (i 1).val 19 (by decide) ![0, 2432] rfl inb_S384x5120_S384x128_0_2432) ?_
      refine Laid.cons _ _ _ (k0_off19_eq i) (slab_WQ arg3 harg3 x1 d (i 1).val 18 (by decide) ![0, 2304] rfl inb_S384x5120_S384x128_0_2304) ?_
      refine Laid.cons _ _ _ (k0_off18_eq i) (slab_WQ arg3 harg3 x1 d (i 1).val 17 (by decide) ![0, 2176] rfl inb_S384x5120_S384x128_0_2176) ?_
      refine Laid.cons _ _ _ (k0_off17_eq i) (slab_WQ arg3 harg3 x1 d (i 1).val 16 (by decide) ![0, 2048] rfl inb_S384x5120_S384x128_0_2048) ?_
      refine Laid.cons _ _ _ (k0_off16_eq i) (slab_WQ arg3 harg3 x1 d (i 1).val 15 (by decide) ![0, 1920] rfl inb_S384x5120_S384x128_0_1920) ?_
      refine Laid.cons _ _ _ (k0_off15_eq i) (slab_WQ arg3 harg3 x1 d (i 1).val 14 (by decide) ![0, 1792] rfl inb_S384x5120_S384x128_0_1792) ?_
      refine Laid.cons _ _ _ (k0_off14_eq i) (slab_WQ arg3 harg3 x1 d (i 1).val 13 (by decide) ![0, 1664] rfl inb_S384x5120_S384x128_0_1664) ?_
      refine Laid.cons _ _ _ (k0_off13_eq i) (slab_WQ arg3 harg3 x1 d (i 1).val 12 (by decide) ![0, 1536] rfl inb_S384x5120_S384x128_0_1536) ?_
      refine Laid.cons _ _ _ (k0_off12_eq i) (slab_WQ arg3 harg3 x1 d (i 1).val 11 (by decide) ![0, 1408] rfl inb_S384x5120_S384x128_0_1408) ?_
      refine Laid.cons _ _ _ (k0_off11_eq i) (slab_WQ arg3 harg3 x1 d (i 1).val 10 (by decide) ![0, 1280] rfl inb_S384x5120_S384x128_0_1280) ?_
      refine Laid.cons _ _ _ (k0_off10_eq i) (slab_WQ arg3 harg3 x1 d (i 1).val 9 (by decide) ![0, 1152] rfl inb_S384x5120_S384x128_0_1152) ?_
      refine Laid.cons _ _ _ (k0_off9_eq i) (slab_WQ arg3 harg3 x1 d (i 1).val 8 (by decide) ![0, 1024] rfl inb_S384x5120_S384x128_0_1024) ?_
      refine Laid.cons _ _ _ (k0_off8_eq i) (slab_WQ arg3 harg3 x1 d (i 1).val 7 (by decide) ![0, 896] rfl inb_S384x5120_S384x128_0_896) ?_
      refine Laid.cons _ _ _ (k0_off7_eq i) (slab_WQ arg3 harg3 x1 d (i 1).val 6 (by decide) ![0, 768] rfl inb_S384x5120_S384x128_0_768) ?_
      refine Laid.cons _ _ _ (k0_off6_eq i) (slab_WQ arg3 harg3 x1 d (i 1).val 5 (by decide) ![0, 640] rfl inb_S384x5120_S384x128_0_640) ?_
      refine Laid.cons _ _ _ (k0_off5_eq i) (slab_WQ arg3 harg3 x1 d (i 1).val 4 (by decide) ![0, 512] rfl inb_S384x5120_S384x128_0_512) ?_
      refine Laid.cons _ _ _ (k0_off4_eq i) (slab_WQ arg3 harg3 x1 d (i 1).val 3 (by decide) ![0, 384] rfl inb_S384x5120_S384x128_0_384) ?_
      refine Laid.cons _ _ _ (k0_off3_eq i) (slab_WQ arg3 harg3 x1 d (i 1).val 2 (by decide) ![0, 256] rfl inb_S384x5120_S384x128_0_256) ?_
      refine Laid.cons _ _ _ (k0_off2_eq i) (slab_WQ arg3 harg3 x1 d (i 1).val 1 (by decide) ![0, 128] rfl inb_S384x5120_S384x128_0_128) ?_
      refine Laid.cons _ _ _ (k0_off1_eq i) (slab_WQ arg3 harg3 x1 d (i 1).val 0 (by decide) ![0, 0] rfl inb_S384x5120_S384x128_0_0) ?_
      rfl
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      refine read_y _ _ inb_S1x256x384_S1x256x384_0_0_0 ?_ ?_
      · refine (load_getW _ _ (i 1).val hn (k0_off41 i) (k0_off41_eq i) _).trans ?_
        exact (congrArg _ (read_putW _ _ _ _ _ rfl _ (hWQ _))).trans (getW_putW _ hn _ _)
      · exact (load_full arg9.view (arg9.view.writes (Elt F) arg9.view.junk _) inb_S5120x256_S5120x256_0_0).trans (hXQ.read_eq arg9.view arg9.view.junk fill_XQ)
    isplitl [H3]
    · iexists _; isplitr; swap; · iexact H3
      ipureintro
      refine Laid.read_eq (s := S1x5120x256) (off := offXC) (size := S1x128x256.size) (n := 40) _ _ ?_ fill_XC
      refine Laid.cons _ _ _ (rfl) (slab_XC arg2 harg2 x0 39 (by decide) ![0, 4992, 0] rfl inb_S1x5120x256_S1x128x256_0_4992_0) ?_
      refine Laid.cons _ _ _ (rfl) (slab_XC arg2 harg2 x0 38 (by decide) ![0, 4864, 0] rfl inb_S1x5120x256_S1x128x256_0_4864_0) ?_
      refine Laid.cons _ _ _ (rfl) (slab_XC arg2 harg2 x0 37 (by decide) ![0, 4736, 0] rfl inb_S1x5120x256_S1x128x256_0_4736_0) ?_
      refine Laid.cons _ _ _ (rfl) (slab_XC arg2 harg2 x0 36 (by decide) ![0, 4608, 0] rfl inb_S1x5120x256_S1x128x256_0_4608_0) ?_
      refine Laid.cons _ _ _ (rfl) (slab_XC arg2 harg2 x0 35 (by decide) ![0, 4480, 0] rfl inb_S1x5120x256_S1x128x256_0_4480_0) ?_
      refine Laid.cons _ _ _ (rfl) (slab_XC arg2 harg2 x0 34 (by decide) ![0, 4352, 0] rfl inb_S1x5120x256_S1x128x256_0_4352_0) ?_
      refine Laid.cons _ _ _ (rfl) (slab_XC arg2 harg2 x0 33 (by decide) ![0, 4224, 0] rfl inb_S1x5120x256_S1x128x256_0_4224_0) ?_
      refine Laid.cons _ _ _ (rfl) (slab_XC arg2 harg2 x0 32 (by decide) ![0, 4096, 0] rfl inb_S1x5120x256_S1x128x256_0_4096_0) ?_
      refine Laid.cons _ _ _ (rfl) (slab_XC arg2 harg2 x0 31 (by decide) ![0, 3968, 0] rfl inb_S1x5120x256_S1x128x256_0_3968_0) ?_
      refine Laid.cons _ _ _ (rfl) (slab_XC arg2 harg2 x0 30 (by decide) ![0, 3840, 0] rfl inb_S1x5120x256_S1x128x256_0_3840_0) ?_
      refine Laid.cons _ _ _ (rfl) (slab_XC arg2 harg2 x0 29 (by decide) ![0, 3712, 0] rfl inb_S1x5120x256_S1x128x256_0_3712_0) ?_
      refine Laid.cons _ _ _ (rfl) (slab_XC arg2 harg2 x0 28 (by decide) ![0, 3584, 0] rfl inb_S1x5120x256_S1x128x256_0_3584_0) ?_
      refine Laid.cons _ _ _ (rfl) (slab_XC arg2 harg2 x0 27 (by decide) ![0, 3456, 0] rfl inb_S1x5120x256_S1x128x256_0_3456_0) ?_
      refine Laid.cons _ _ _ (rfl) (slab_XC arg2 harg2 x0 26 (by decide) ![0, 3328, 0] rfl inb_S1x5120x256_S1x128x256_0_3328_0) ?_
      refine Laid.cons _ _ _ (rfl) (slab_XC arg2 harg2 x0 25 (by decide) ![0, 3200, 0] rfl inb_S1x5120x256_S1x128x256_0_3200_0) ?_
      refine Laid.cons _ _ _ (rfl) (slab_XC arg2 harg2 x0 24 (by decide) ![0, 3072, 0] rfl inb_S1x5120x256_S1x128x256_0_3072_0) ?_
      refine Laid.cons _ _ _ (rfl) (slab_XC arg2 harg2 x0 23 (by decide) ![0, 2944, 0] rfl inb_S1x5120x256_S1x128x256_0_2944_0) ?_
      refine Laid.cons _ _ _ (rfl) (slab_XC arg2 harg2 x0 22 (by decide) ![0, 2816, 0] rfl inb_S1x5120x256_S1x128x256_0_2816_0) ?_
      refine Laid.cons _ _ _ (rfl) (slab_XC arg2 harg2 x0 21 (by decide) ![0, 2688, 0] rfl inb_S1x5120x256_S1x128x256_0_2688_0) ?_
      refine Laid.cons _ _ _ (rfl) (slab_XC arg2 harg2 x0 20 (by decide) ![0, 2560, 0] rfl inb_S1x5120x256_S1x128x256_0_2560_0) ?_
      refine Laid.cons _ _ _ (rfl) (slab_XC arg2 harg2 x0 19 (by decide) ![0, 2432, 0] rfl inb_S1x5120x256_S1x128x256_0_2432_0) ?_
      refine Laid.cons _ _ _ (rfl) (slab_XC arg2 harg2 x0 18 (by decide) ![0, 2304, 0] rfl inb_S1x5120x256_S1x128x256_0_2304_0) ?_
      refine Laid.cons _ _ _ (rfl) (slab_XC arg2 harg2 x0 17 (by decide) ![0, 2176, 0] rfl inb_S1x5120x256_S1x128x256_0_2176_0) ?_
      refine Laid.cons _ _ _ (rfl) (slab_XC arg2 harg2 x0 16 (by decide) ![0, 2048, 0] rfl inb_S1x5120x256_S1x128x256_0_2048_0) ?_
      refine Laid.cons _ _ _ (rfl) (slab_XC arg2 harg2 x0 15 (by decide) ![0, 1920, 0] rfl inb_S1x5120x256_S1x128x256_0_1920_0) ?_
      refine Laid.cons _ _ _ (rfl) (slab_XC arg2 harg2 x0 14 (by decide) ![0, 1792, 0] rfl inb_S1x5120x256_S1x128x256_0_1792_0) ?_
      refine Laid.cons _ _ _ (rfl) (slab_XC arg2 harg2 x0 13 (by decide) ![0, 1664, 0] rfl inb_S1x5120x256_S1x128x256_0_1664_0) ?_
      refine Laid.cons _ _ _ (rfl) (slab_XC arg2 harg2 x0 12 (by decide) ![0, 1536, 0] rfl inb_S1x5120x256_S1x128x256_0_1536_0) ?_
      refine Laid.cons _ _ _ (rfl) (slab_XC arg2 harg2 x0 11 (by decide) ![0, 1408, 0] rfl inb_S1x5120x256_S1x128x256_0_1408_0) ?_
      refine Laid.cons _ _ _ (rfl) (slab_XC arg2 harg2 x0 10 (by decide) ![0, 1280, 0] rfl inb_S1x5120x256_S1x128x256_0_1280_0) ?_
      refine Laid.cons _ _ _ (rfl) (slab_XC arg2 harg2 x0 9 (by decide) ![0, 1152, 0] rfl inb_S1x5120x256_S1x128x256_0_1152_0) ?_
      refine Laid.cons _ _ _ (rfl) (slab_XC arg2 harg2 x0 8 (by decide) ![0, 1024, 0] rfl inb_S1x5120x256_S1x128x256_0_1024_0) ?_
      refine Laid.cons _ _ _ (rfl) (slab_XC arg2 harg2 x0 7 (by decide) ![0, 896, 0] rfl inb_S1x5120x256_S1x128x256_0_896_0) ?_
      refine Laid.cons _ _ _ (rfl) (slab_XC arg2 harg2 x0 6 (by decide) ![0, 768, 0] rfl inb_S1x5120x256_S1x128x256_0_768_0) ?_
      refine Laid.cons _ _ _ (rfl) (slab_XC arg2 harg2 x0 5 (by decide) ![0, 640, 0] rfl inb_S1x5120x256_S1x128x256_0_640_0) ?_
      refine Laid.cons _ _ _ (rfl) (slab_XC arg2 harg2 x0 4 (by decide) ![0, 512, 0] rfl inb_S1x5120x256_S1x128x256_0_512_0) ?_
      refine Laid.cons _ _ _ (rfl) (slab_XC arg2 harg2 x0 3 (by decide) ![0, 384, 0] rfl inb_S1x5120x256_S1x128x256_0_384_0) ?_
      refine Laid.cons _ _ _ (rfl) (slab_XC arg2 harg2 x0 2 (by decide) ![0, 256, 0] rfl inb_S1x5120x256_S1x128x256_0_256_0) ?_
      refine Laid.cons _ _ _ (rfl) (slab_XC arg2 harg2 x0 1 (by decide) ![0, 128, 0] rfl inb_S1x5120x256_S1x128x256_0_128_0) ?_
      refine Laid.cons _ _ _ (rfl) (slab_XC arg2 harg2 x0 0 (by decide) ![0, 0, 0] rfl inb_S1x5120x256_S1x128x256_0_0_0) ?_
      rfl
    isplitl [H4]
    · iexists _; isplitr; swap; · iexact H4
      ipureintro
      refine Laid.read_eq (s := S1x40x256) (off := offXS) (size := S1x1x256.size) (n := 40) _ _ ?_ fill_XS
      refine Laid.cons _ _ _ (rfl) (slab_XS arg2 harg2 x0 39 (by decide) ![0, 4992, 0] rfl inb_S1x5120x256_S1x128x256_0_4992_0) ?_
      refine Laid.cons _ _ _ (rfl) (slab_XS arg2 harg2 x0 38 (by decide) ![0, 4864, 0] rfl inb_S1x5120x256_S1x128x256_0_4864_0) ?_
      refine Laid.cons _ _ _ (rfl) (slab_XS arg2 harg2 x0 37 (by decide) ![0, 4736, 0] rfl inb_S1x5120x256_S1x128x256_0_4736_0) ?_
      refine Laid.cons _ _ _ (rfl) (slab_XS arg2 harg2 x0 36 (by decide) ![0, 4608, 0] rfl inb_S1x5120x256_S1x128x256_0_4608_0) ?_
      refine Laid.cons _ _ _ (rfl) (slab_XS arg2 harg2 x0 35 (by decide) ![0, 4480, 0] rfl inb_S1x5120x256_S1x128x256_0_4480_0) ?_
      refine Laid.cons _ _ _ (rfl) (slab_XS arg2 harg2 x0 34 (by decide) ![0, 4352, 0] rfl inb_S1x5120x256_S1x128x256_0_4352_0) ?_
      refine Laid.cons _ _ _ (rfl) (slab_XS arg2 harg2 x0 33 (by decide) ![0, 4224, 0] rfl inb_S1x5120x256_S1x128x256_0_4224_0) ?_
      refine Laid.cons _ _ _ (rfl) (slab_XS arg2 harg2 x0 32 (by decide) ![0, 4096, 0] rfl inb_S1x5120x256_S1x128x256_0_4096_0) ?_
      refine Laid.cons _ _ _ (rfl) (slab_XS arg2 harg2 x0 31 (by decide) ![0, 3968, 0] rfl inb_S1x5120x256_S1x128x256_0_3968_0) ?_
      refine Laid.cons _ _ _ (rfl) (slab_XS arg2 harg2 x0 30 (by decide) ![0, 3840, 0] rfl inb_S1x5120x256_S1x128x256_0_3840_0) ?_
      refine Laid.cons _ _ _ (rfl) (slab_XS arg2 harg2 x0 29 (by decide) ![0, 3712, 0] rfl inb_S1x5120x256_S1x128x256_0_3712_0) ?_
      refine Laid.cons _ _ _ (rfl) (slab_XS arg2 harg2 x0 28 (by decide) ![0, 3584, 0] rfl inb_S1x5120x256_S1x128x256_0_3584_0) ?_
      refine Laid.cons _ _ _ (rfl) (slab_XS arg2 harg2 x0 27 (by decide) ![0, 3456, 0] rfl inb_S1x5120x256_S1x128x256_0_3456_0) ?_
      refine Laid.cons _ _ _ (rfl) (slab_XS arg2 harg2 x0 26 (by decide) ![0, 3328, 0] rfl inb_S1x5120x256_S1x128x256_0_3328_0) ?_
      refine Laid.cons _ _ _ (rfl) (slab_XS arg2 harg2 x0 25 (by decide) ![0, 3200, 0] rfl inb_S1x5120x256_S1x128x256_0_3200_0) ?_
      refine Laid.cons _ _ _ (rfl) (slab_XS arg2 harg2 x0 24 (by decide) ![0, 3072, 0] rfl inb_S1x5120x256_S1x128x256_0_3072_0) ?_
      refine Laid.cons _ _ _ (rfl) (slab_XS arg2 harg2 x0 23 (by decide) ![0, 2944, 0] rfl inb_S1x5120x256_S1x128x256_0_2944_0) ?_
      refine Laid.cons _ _ _ (rfl) (slab_XS arg2 harg2 x0 22 (by decide) ![0, 2816, 0] rfl inb_S1x5120x256_S1x128x256_0_2816_0) ?_
      refine Laid.cons _ _ _ (rfl) (slab_XS arg2 harg2 x0 21 (by decide) ![0, 2688, 0] rfl inb_S1x5120x256_S1x128x256_0_2688_0) ?_
      refine Laid.cons _ _ _ (rfl) (slab_XS arg2 harg2 x0 20 (by decide) ![0, 2560, 0] rfl inb_S1x5120x256_S1x128x256_0_2560_0) ?_
      refine Laid.cons _ _ _ (rfl) (slab_XS arg2 harg2 x0 19 (by decide) ![0, 2432, 0] rfl inb_S1x5120x256_S1x128x256_0_2432_0) ?_
      refine Laid.cons _ _ _ (rfl) (slab_XS arg2 harg2 x0 18 (by decide) ![0, 2304, 0] rfl inb_S1x5120x256_S1x128x256_0_2304_0) ?_
      refine Laid.cons _ _ _ (rfl) (slab_XS arg2 harg2 x0 17 (by decide) ![0, 2176, 0] rfl inb_S1x5120x256_S1x128x256_0_2176_0) ?_
      refine Laid.cons _ _ _ (rfl) (slab_XS arg2 harg2 x0 16 (by decide) ![0, 2048, 0] rfl inb_S1x5120x256_S1x128x256_0_2048_0) ?_
      refine Laid.cons _ _ _ (rfl) (slab_XS arg2 harg2 x0 15 (by decide) ![0, 1920, 0] rfl inb_S1x5120x256_S1x128x256_0_1920_0) ?_
      refine Laid.cons _ _ _ (rfl) (slab_XS arg2 harg2 x0 14 (by decide) ![0, 1792, 0] rfl inb_S1x5120x256_S1x128x256_0_1792_0) ?_
      refine Laid.cons _ _ _ (rfl) (slab_XS arg2 harg2 x0 13 (by decide) ![0, 1664, 0] rfl inb_S1x5120x256_S1x128x256_0_1664_0) ?_
      refine Laid.cons _ _ _ (rfl) (slab_XS arg2 harg2 x0 12 (by decide) ![0, 1536, 0] rfl inb_S1x5120x256_S1x128x256_0_1536_0) ?_
      refine Laid.cons _ _ _ (rfl) (slab_XS arg2 harg2 x0 11 (by decide) ![0, 1408, 0] rfl inb_S1x5120x256_S1x128x256_0_1408_0) ?_
      refine Laid.cons _ _ _ (rfl) (slab_XS arg2 harg2 x0 10 (by decide) ![0, 1280, 0] rfl inb_S1x5120x256_S1x128x256_0_1280_0) ?_
      refine Laid.cons _ _ _ (rfl) (slab_XS arg2 harg2 x0 9 (by decide) ![0, 1152, 0] rfl inb_S1x5120x256_S1x128x256_0_1152_0) ?_
      refine Laid.cons _ _ _ (rfl) (slab_XS arg2 harg2 x0 8 (by decide) ![0, 1024, 0] rfl inb_S1x5120x256_S1x128x256_0_1024_0) ?_
      refine Laid.cons _ _ _ (rfl) (slab_XS arg2 harg2 x0 7 (by decide) ![0, 896, 0] rfl inb_S1x5120x256_S1x128x256_0_896_0) ?_
      refine Laid.cons _ _ _ (rfl) (slab_XS arg2 harg2 x0 6 (by decide) ![0, 768, 0] rfl inb_S1x5120x256_S1x128x256_0_768_0) ?_
      refine Laid.cons _ _ _ (rfl) (slab_XS arg2 harg2 x0 5 (by decide) ![0, 640, 0] rfl inb_S1x5120x256_S1x128x256_0_640_0) ?_
      refine Laid.cons _ _ _ (rfl) (slab_XS arg2 harg2 x0 4 (by decide) ![0, 512, 0] rfl inb_S1x5120x256_S1x128x256_0_512_0) ?_
      refine Laid.cons _ _ _ (rfl) (slab_XS arg2 harg2 x0 3 (by decide) ![0, 384, 0] rfl inb_S1x5120x256_S1x128x256_0_384_0) ?_
      refine Laid.cons _ _ _ (rfl) (slab_XS arg2 harg2 x0 2 (by decide) ![0, 256, 0] rfl inb_S1x5120x256_S1x128x256_0_256_0) ?_
      refine Laid.cons _ _ _ (rfl) (slab_XS arg2 harg2 x0 1 (by decide) ![0, 128, 0] rfl inb_S1x5120x256_S1x128x256_0_128_0) ?_
      refine Laid.cons _ _ _ (rfl) (slab_XS arg2 harg2 x0 0 (by decide) ![0, 0, 0] rfl inb_S1x5120x256_S1x128x256_0_0_0) ?_
      rfl
    isplitl [H5]
    · iexists _; isplitr; swap; · iexact H5
      ipureintro
      refine Laid.read_eq (s := S384x5120) (off := offWC) (size := S384x128.size) (n := 40) _ _ ?_ fill_WC
      refine Laid.cons _ _ _ (rfl) (slab_WC arg3 harg3 x1 39 (by decide) ![0, 4992] rfl inb_S384x5120_S384x128_0_4992) ?_
      refine Laid.cons _ _ _ (rfl) (slab_WC arg3 harg3 x1 38 (by decide) ![0, 4864] rfl inb_S384x5120_S384x128_0_4864) ?_
      refine Laid.cons _ _ _ (rfl) (slab_WC arg3 harg3 x1 37 (by decide) ![0, 4736] rfl inb_S384x5120_S384x128_0_4736) ?_
      refine Laid.cons _ _ _ (rfl) (slab_WC arg3 harg3 x1 36 (by decide) ![0, 4608] rfl inb_S384x5120_S384x128_0_4608) ?_
      refine Laid.cons _ _ _ (rfl) (slab_WC arg3 harg3 x1 35 (by decide) ![0, 4480] rfl inb_S384x5120_S384x128_0_4480) ?_
      refine Laid.cons _ _ _ (rfl) (slab_WC arg3 harg3 x1 34 (by decide) ![0, 4352] rfl inb_S384x5120_S384x128_0_4352) ?_
      refine Laid.cons _ _ _ (rfl) (slab_WC arg3 harg3 x1 33 (by decide) ![0, 4224] rfl inb_S384x5120_S384x128_0_4224) ?_
      refine Laid.cons _ _ _ (rfl) (slab_WC arg3 harg3 x1 32 (by decide) ![0, 4096] rfl inb_S384x5120_S384x128_0_4096) ?_
      refine Laid.cons _ _ _ (rfl) (slab_WC arg3 harg3 x1 31 (by decide) ![0, 3968] rfl inb_S384x5120_S384x128_0_3968) ?_
      refine Laid.cons _ _ _ (rfl) (slab_WC arg3 harg3 x1 30 (by decide) ![0, 3840] rfl inb_S384x5120_S384x128_0_3840) ?_
      refine Laid.cons _ _ _ (rfl) (slab_WC arg3 harg3 x1 29 (by decide) ![0, 3712] rfl inb_S384x5120_S384x128_0_3712) ?_
      refine Laid.cons _ _ _ (rfl) (slab_WC arg3 harg3 x1 28 (by decide) ![0, 3584] rfl inb_S384x5120_S384x128_0_3584) ?_
      refine Laid.cons _ _ _ (rfl) (slab_WC arg3 harg3 x1 27 (by decide) ![0, 3456] rfl inb_S384x5120_S384x128_0_3456) ?_
      refine Laid.cons _ _ _ (rfl) (slab_WC arg3 harg3 x1 26 (by decide) ![0, 3328] rfl inb_S384x5120_S384x128_0_3328) ?_
      refine Laid.cons _ _ _ (rfl) (slab_WC arg3 harg3 x1 25 (by decide) ![0, 3200] rfl inb_S384x5120_S384x128_0_3200) ?_
      refine Laid.cons _ _ _ (rfl) (slab_WC arg3 harg3 x1 24 (by decide) ![0, 3072] rfl inb_S384x5120_S384x128_0_3072) ?_
      refine Laid.cons _ _ _ (rfl) (slab_WC arg3 harg3 x1 23 (by decide) ![0, 2944] rfl inb_S384x5120_S384x128_0_2944) ?_
      refine Laid.cons _ _ _ (rfl) (slab_WC arg3 harg3 x1 22 (by decide) ![0, 2816] rfl inb_S384x5120_S384x128_0_2816) ?_
      refine Laid.cons _ _ _ (rfl) (slab_WC arg3 harg3 x1 21 (by decide) ![0, 2688] rfl inb_S384x5120_S384x128_0_2688) ?_
      refine Laid.cons _ _ _ (rfl) (slab_WC arg3 harg3 x1 20 (by decide) ![0, 2560] rfl inb_S384x5120_S384x128_0_2560) ?_
      refine Laid.cons _ _ _ (rfl) (slab_WC arg3 harg3 x1 19 (by decide) ![0, 2432] rfl inb_S384x5120_S384x128_0_2432) ?_
      refine Laid.cons _ _ _ (rfl) (slab_WC arg3 harg3 x1 18 (by decide) ![0, 2304] rfl inb_S384x5120_S384x128_0_2304) ?_
      refine Laid.cons _ _ _ (rfl) (slab_WC arg3 harg3 x1 17 (by decide) ![0, 2176] rfl inb_S384x5120_S384x128_0_2176) ?_
      refine Laid.cons _ _ _ (rfl) (slab_WC arg3 harg3 x1 16 (by decide) ![0, 2048] rfl inb_S384x5120_S384x128_0_2048) ?_
      refine Laid.cons _ _ _ (rfl) (slab_WC arg3 harg3 x1 15 (by decide) ![0, 1920] rfl inb_S384x5120_S384x128_0_1920) ?_
      refine Laid.cons _ _ _ (rfl) (slab_WC arg3 harg3 x1 14 (by decide) ![0, 1792] rfl inb_S384x5120_S384x128_0_1792) ?_
      refine Laid.cons _ _ _ (rfl) (slab_WC arg3 harg3 x1 13 (by decide) ![0, 1664] rfl inb_S384x5120_S384x128_0_1664) ?_
      refine Laid.cons _ _ _ (rfl) (slab_WC arg3 harg3 x1 12 (by decide) ![0, 1536] rfl inb_S384x5120_S384x128_0_1536) ?_
      refine Laid.cons _ _ _ (rfl) (slab_WC arg3 harg3 x1 11 (by decide) ![0, 1408] rfl inb_S384x5120_S384x128_0_1408) ?_
      refine Laid.cons _ _ _ (rfl) (slab_WC arg3 harg3 x1 10 (by decide) ![0, 1280] rfl inb_S384x5120_S384x128_0_1280) ?_
      refine Laid.cons _ _ _ (rfl) (slab_WC arg3 harg3 x1 9 (by decide) ![0, 1152] rfl inb_S384x5120_S384x128_0_1152) ?_
      refine Laid.cons _ _ _ (rfl) (slab_WC arg3 harg3 x1 8 (by decide) ![0, 1024] rfl inb_S384x5120_S384x128_0_1024) ?_
      refine Laid.cons _ _ _ (rfl) (slab_WC arg3 harg3 x1 7 (by decide) ![0, 896] rfl inb_S384x5120_S384x128_0_896) ?_
      refine Laid.cons _ _ _ (rfl) (slab_WC arg3 harg3 x1 6 (by decide) ![0, 768] rfl inb_S384x5120_S384x128_0_768) ?_
      refine Laid.cons _ _ _ (rfl) (slab_WC arg3 harg3 x1 5 (by decide) ![0, 640] rfl inb_S384x5120_S384x128_0_640) ?_
      refine Laid.cons _ _ _ (rfl) (slab_WC arg3 harg3 x1 4 (by decide) ![0, 512] rfl inb_S384x5120_S384x128_0_512) ?_
      refine Laid.cons _ _ _ (rfl) (slab_WC arg3 harg3 x1 3 (by decide) ![0, 384] rfl inb_S384x5120_S384x128_0_384) ?_
      refine Laid.cons _ _ _ (rfl) (slab_WC arg3 harg3 x1 2 (by decide) ![0, 256] rfl inb_S384x5120_S384x128_0_256) ?_
      refine Laid.cons _ _ _ (rfl) (slab_WC arg3 harg3 x1 1 (by decide) ![0, 128] rfl inb_S384x5120_S384x128_0_128) ?_
      refine Laid.cons _ _ _ (rfl) (slab_WC arg3 harg3 x1 0 (by decide) ![0, 0] rfl inb_S384x5120_S384x128_0_0) ?_
      rfl
    isplitl [H6]
    · iexists _; isplitr; swap; · iexact H6
      ipureintro
      refine Laid.read_eq (s := S40x384) (off := offWS) (size := S1x384.size) (n := 40) _ _ ?_ fill_WS
      refine Laid.cons _ _ _ (rfl) (slab_WS arg3 harg3 x1 39 (by decide) ![0, 4992] rfl inb_S384x5120_S384x128_0_4992) ?_
      refine Laid.cons _ _ _ (rfl) (slab_WS arg3 harg3 x1 38 (by decide) ![0, 4864] rfl inb_S384x5120_S384x128_0_4864) ?_
      refine Laid.cons _ _ _ (rfl) (slab_WS arg3 harg3 x1 37 (by decide) ![0, 4736] rfl inb_S384x5120_S384x128_0_4736) ?_
      refine Laid.cons _ _ _ (rfl) (slab_WS arg3 harg3 x1 36 (by decide) ![0, 4608] rfl inb_S384x5120_S384x128_0_4608) ?_
      refine Laid.cons _ _ _ (rfl) (slab_WS arg3 harg3 x1 35 (by decide) ![0, 4480] rfl inb_S384x5120_S384x128_0_4480) ?_
      refine Laid.cons _ _ _ (rfl) (slab_WS arg3 harg3 x1 34 (by decide) ![0, 4352] rfl inb_S384x5120_S384x128_0_4352) ?_
      refine Laid.cons _ _ _ (rfl) (slab_WS arg3 harg3 x1 33 (by decide) ![0, 4224] rfl inb_S384x5120_S384x128_0_4224) ?_
      refine Laid.cons _ _ _ (rfl) (slab_WS arg3 harg3 x1 32 (by decide) ![0, 4096] rfl inb_S384x5120_S384x128_0_4096) ?_
      refine Laid.cons _ _ _ (rfl) (slab_WS arg3 harg3 x1 31 (by decide) ![0, 3968] rfl inb_S384x5120_S384x128_0_3968) ?_
      refine Laid.cons _ _ _ (rfl) (slab_WS arg3 harg3 x1 30 (by decide) ![0, 3840] rfl inb_S384x5120_S384x128_0_3840) ?_
      refine Laid.cons _ _ _ (rfl) (slab_WS arg3 harg3 x1 29 (by decide) ![0, 3712] rfl inb_S384x5120_S384x128_0_3712) ?_
      refine Laid.cons _ _ _ (rfl) (slab_WS arg3 harg3 x1 28 (by decide) ![0, 3584] rfl inb_S384x5120_S384x128_0_3584) ?_
      refine Laid.cons _ _ _ (rfl) (slab_WS arg3 harg3 x1 27 (by decide) ![0, 3456] rfl inb_S384x5120_S384x128_0_3456) ?_
      refine Laid.cons _ _ _ (rfl) (slab_WS arg3 harg3 x1 26 (by decide) ![0, 3328] rfl inb_S384x5120_S384x128_0_3328) ?_
      refine Laid.cons _ _ _ (rfl) (slab_WS arg3 harg3 x1 25 (by decide) ![0, 3200] rfl inb_S384x5120_S384x128_0_3200) ?_
      refine Laid.cons _ _ _ (rfl) (slab_WS arg3 harg3 x1 24 (by decide) ![0, 3072] rfl inb_S384x5120_S384x128_0_3072) ?_
      refine Laid.cons _ _ _ (rfl) (slab_WS arg3 harg3 x1 23 (by decide) ![0, 2944] rfl inb_S384x5120_S384x128_0_2944) ?_
      refine Laid.cons _ _ _ (rfl) (slab_WS arg3 harg3 x1 22 (by decide) ![0, 2816] rfl inb_S384x5120_S384x128_0_2816) ?_
      refine Laid.cons _ _ _ (rfl) (slab_WS arg3 harg3 x1 21 (by decide) ![0, 2688] rfl inb_S384x5120_S384x128_0_2688) ?_
      refine Laid.cons _ _ _ (rfl) (slab_WS arg3 harg3 x1 20 (by decide) ![0, 2560] rfl inb_S384x5120_S384x128_0_2560) ?_
      refine Laid.cons _ _ _ (rfl) (slab_WS arg3 harg3 x1 19 (by decide) ![0, 2432] rfl inb_S384x5120_S384x128_0_2432) ?_
      refine Laid.cons _ _ _ (rfl) (slab_WS arg3 harg3 x1 18 (by decide) ![0, 2304] rfl inb_S384x5120_S384x128_0_2304) ?_
      refine Laid.cons _ _ _ (rfl) (slab_WS arg3 harg3 x1 17 (by decide) ![0, 2176] rfl inb_S384x5120_S384x128_0_2176) ?_
      refine Laid.cons _ _ _ (rfl) (slab_WS arg3 harg3 x1 16 (by decide) ![0, 2048] rfl inb_S384x5120_S384x128_0_2048) ?_
      refine Laid.cons _ _ _ (rfl) (slab_WS arg3 harg3 x1 15 (by decide) ![0, 1920] rfl inb_S384x5120_S384x128_0_1920) ?_
      refine Laid.cons _ _ _ (rfl) (slab_WS arg3 harg3 x1 14 (by decide) ![0, 1792] rfl inb_S384x5120_S384x128_0_1792) ?_
      refine Laid.cons _ _ _ (rfl) (slab_WS arg3 harg3 x1 13 (by decide) ![0, 1664] rfl inb_S384x5120_S384x128_0_1664) ?_
      refine Laid.cons _ _ _ (rfl) (slab_WS arg3 harg3 x1 12 (by decide) ![0, 1536] rfl inb_S384x5120_S384x128_0_1536) ?_
      refine Laid.cons _ _ _ (rfl) (slab_WS arg3 harg3 x1 11 (by decide) ![0, 1408] rfl inb_S384x5120_S384x128_0_1408) ?_
      refine Laid.cons _ _ _ (rfl) (slab_WS arg3 harg3 x1 10 (by decide) ![0, 1280] rfl inb_S384x5120_S384x128_0_1280) ?_
      refine Laid.cons _ _ _ (rfl) (slab_WS arg3 harg3 x1 9 (by decide) ![0, 1152] rfl inb_S384x5120_S384x128_0_1152) ?_
      refine Laid.cons _ _ _ (rfl) (slab_WS arg3 harg3 x1 8 (by decide) ![0, 1024] rfl inb_S384x5120_S384x128_0_1024) ?_
      refine Laid.cons _ _ _ (rfl) (slab_WS arg3 harg3 x1 7 (by decide) ![0, 896] rfl inb_S384x5120_S384x128_0_896) ?_
      refine Laid.cons _ _ _ (rfl) (slab_WS arg3 harg3 x1 6 (by decide) ![0, 768] rfl inb_S384x5120_S384x128_0_768) ?_
      refine Laid.cons _ _ _ (rfl) (slab_WS arg3 harg3 x1 5 (by decide) ![0, 640] rfl inb_S384x5120_S384x128_0_640) ?_
      refine Laid.cons _ _ _ (rfl) (slab_WS arg3 harg3 x1 4 (by decide) ![0, 512] rfl inb_S384x5120_S384x128_0_512) ?_
      refine Laid.cons _ _ _ (rfl) (slab_WS arg3 harg3 x1 3 (by decide) ![0, 384] rfl inb_S384x5120_S384x128_0_384) ?_
      refine Laid.cons _ _ _ (rfl) (slab_WS arg3 harg3 x1 2 (by decide) ![0, 256] rfl inb_S384x5120_S384x128_0_256) ?_
      refine Laid.cons _ _ _ (rfl) (slab_WS arg3 harg3 x1 1 (by decide) ![0, 128] rfl inb_S384x5120_S384x128_0_128) ?_
      refine Laid.cons _ _ _ (rfl) (slab_WS arg3 harg3 x1 0 (by decide) ![0, 0] rfl inb_S384x5120_S384x128_0_0) ?_
      rfl
    isplitl [HS0]
    · iexists _; isplitr; swap; · iexact HS0
      ipureintro
      exact hXQ.read_eq _ _ fill_XQ
    iexists _; isplitr; swap; · iexact HS1
    ipureintro
    exact read_putW _ _ _ _ _ hfs1 _ (hWQ d)

end Cert.KernelIdeal.Gen

end
-- ==== Proof.KI.RunB.lean ====
/-
  One run of the kernel body with every buffer named: the other points of the first token tile: the weight tile is quantised.
-/
module

public import proofs.«01_k».proof.Proof.KI.RunA

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2292000 in
theorem bodyRun_B (c : Dev nD) (i : grid0.Coords) (arg2 : Memref sig .tc .vmem S1x5120x256 .bf16) (harg2 : arg2.IsWhole) (arg3 : Memref sig .tc .vmem S384x5120 .bf16) (harg3 : arg3.IsWhole) (arg4 : Memref sig .tc .vmem S1x256x384 .bf16) (harg4 : arg4.IsWhole) (arg5 : Memref sig .tc .vmem S1x5120x256 .fp8e4m3) (harg5 : arg5.IsWhole) (arg6 : Memref sig .tc .vmem S1x40x256 .f32) (harg6 : arg6.IsWhole) (arg7 : Memref sig .tc .vmem S384x5120 .fp8e4m3) (harg7 : arg7.IsWhole) (arg8 : Memref sig .tc .vmem S40x384 .f32) (harg8 : arg8.IsWhole) (arg9 : Memref sig .tc .vmem S5120x256 .bf16) (harg9 : arg9.IsWhole) (arg10 : Memref sig .tc .vmem S3456x5120 .bf16) (harg10 : arg10.IsWhole) (hc0 : ¬cond0_0 i) (hc1 : cond0_1 i)
    (x0 : Vec F S1x5120x256 .bf16) (x1 : Vec F S384x5120 .bf16) (d2 : Vec F S1x256x384 .bf16)
    (d3 : Vec F S1x5120x256 .fp8e4m3) (d4 : Vec F S1x40x256 .f32) (d5 : Vec F S384x5120 .fp8e4m3) (d6 : Vec F S40x384 .f32)
    (e : Vec F S5120x256 .bf16) (d : Vec F S3456x5120 .bf16) :
      ∀ (E : Set ℕ) (K : PUnit → sProp 𝕄),
        iprop(owns (c : Thread nD τ) arg2 fullShare x0
            ∗ owns (c : Thread nD τ) arg3 fullShare x1
            ∗ owns (c : Thread nD τ) arg4 fullShare d2
            ∗ owns (c : Thread nD τ) arg5 fullShare d3
            ∗ owns (c : Thread nD τ) arg6 fullShare d4
            ∗ owns (c : Thread nD τ) arg7 fullShare d5
            ∗ owns (c : Thread nD τ) arg8 fullShare d6
            ∗ owns (c : Thread nD τ) arg9 fullShare e
            ∗ owns (c : Thread nD τ) arg10 fullShare d
            ∗ (iprop(owns (c : Thread nD τ) arg2 fullShare x0
              ∗ owns (c : Thread nD τ) arg3 fullShare x1
              ∗ owns (c : Thread nD τ) arg4 fullShare (k0_pay1 (WQ x1) e)
              ∗ owns (c : Thread nD τ) arg5 fullShare d3
              ∗ owns (c : Thread nD τ) arg6 fullShare d4
              ∗ owns (c : Thread nD τ) arg7 fullShare (WC x1)
              ∗ owns (c : Thread nD τ) arg8 fullShare (WS x1)
              ∗ owns (c : Thread nD τ) arg9 fullShare e
              ∗ owns (c : Thread nD τ) arg10 fullShare (putW (i 1).val (WQ x1) d)) -∗ K ⟨⟩))
          ⊢ wp frame (wpE (defs₀ (F := F)) Variants.none c none) E (cc0_fp8_group_linear i arg2 harg2 arg3 harg3 arg4 harg4 arg5 harg5 arg6 harg6 arg7 harg7 arg8 harg8 arg9 harg9 arg10 harg10) K := by
    intro E K
    simp only [cc0_fp8_group_linear_eq_skeleton]; unfold cc0_fp8_group_linear_skel
    simp only [k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton]
    unfold owns
    iintro ⟨⟨%f0, %hf0, H0⟩, ⟨%f1, %hf1, H1⟩, ⟨%f2, -, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1
    sl_exec (disch := first | sl_exact hc0 | sl_exact hc1)
    have hn : (i 1).val < 9 := (i 1).isLt
    have hWQ : ∀ d : Vec F S3456x5120 .bf16, Laid (Val := Elt F) (putW (i 1).val (WQ x1) d) (offWQ (i 1).val) S384x128.size 40 (bodyRun_B.sl.HS1_40 c i arg3 harg3 hc1 x1) := by
      intro d
      refine Laid.cons _ _ _ (k0_off40_eq i) (slab_WQ arg3 harg3 x1 d (i 1).val 39 (by decide) ![0, 4992] rfl inb_S384x5120_S384x128_0_4992) ?_
      refine Laid.cons _ _ _ (k0_off39_eq i) (slab_WQ arg3 harg3 x1 d (i 1).val 38 (by decide) ![0, 4864] rfl inb_S384x5120_S384x128_0_4864) ?_
      refine Laid.cons _ _ _ (k0_off38_eq i) (slab_WQ arg3 harg3 x1 d (i 1).val 37 (by decide) ![0, 4736] rfl inb_S384x5120_S384x128_0_4736) ?_
      refine Laid.cons _ _ _ (k0_off37_eq i) (slab_WQ arg3 harg3 x1 d (i 1).val 36 (by decide) ![0, 4608] rfl inb_S384x5120_S384x128_0_4608) ?_
      refine Laid.cons _ _ _ (k0_off36_eq i) (slab_WQ arg3 harg3 x1 d (i 1).val 35 (by decide) ![0, 4480] rfl inb_S384x5120_S384x128_0_4480) ?_
      refine Laid.cons _ _ _ (k0_off35_eq i) (slab_WQ arg3 harg3 x1 d (i 1).val 34 (by decide) ![0, 4352] rfl inb_S384x5120_S384x128_0_4352) ?_
      refine Laid.cons _ _ _ (k0_off34_eq i) (slab_WQ arg3 harg3 x1 d (i 1).val 33 (by decide) ![0, 4224] rfl inb_S384x5120_S384x128_0_4224) ?_
      refine Laid.cons _ _ _ (k0_off33_eq i) (slab_WQ arg3 harg3 x1 d (i 1).val 32 (by decide) ![0, 4096] rfl inb_S384x5120_S384x128_0_4096) ?_
      refine Laid.cons _ _ _ (k0_off32_eq i) (slab_WQ arg3 harg3 x1 d (i 1).val 31 (by decide) ![0, 3968] rfl inb_S384x5120_S384x128_0_3968) ?_
      refine Laid.cons _ _ _ (k0_off31_eq i) (slab_WQ arg3 harg3 x1 d (i 1).val 30 (by decide) ![0, 3840] rfl inb_S384x5120_S384x128_0_3840) ?_
      refine Laid.cons _ _ _ (k0_off30_eq i) (slab_WQ arg3 harg3 x1 d (i 1).val 29 (by decide) ![0, 3712] rfl inb_S384x5120_S384x128_0_3712) ?_
      refine Laid.cons _ _ _ (k0_off29_eq i) (slab_WQ arg3 harg3 x1 d (i 1).val 28 (by decide) ![0, 3584] rfl inb_S384x5120_S384x128_0_3584) ?_
      refine Laid.cons _ _ _ (k0_off28_eq i) (slab_WQ arg3 harg3 x1 d (i 1).val 27 (by decide) ![0, 3456] rfl inb_S384x5120_S384x128_0_3456) ?_
      refine Laid.cons _ _ _ (k0_off27_eq i) (slab_WQ arg3 harg3 x1 d (i 1).val 26 (by decide) ![0, 3328] rfl inb_S384x5120_S384x128_0_3328) ?_
      refine Laid.cons _ _ _ (k0_off26_eq i) (slab_WQ arg3 harg3 x1 d (i 1).val 25 (by decide) ![0, 3200] rfl inb_S384x5120_S384x128_0_3200) ?_
      refine Laid.cons _ _ _ (k0_off25_eq i) (slab_WQ arg3 harg3 x1 d (i 1).val 24 (by decide) ![0, 3072] rfl inb_S384x5120_S384x128_0_3072) ?_
      refine Laid.cons _ _ _ (k0_off24_eq i) (slab_WQ arg3 harg3 x1 d (i 1).val 23 (by decide) ![0, 2944] rfl inb_S384x5120_S384x128_0_2944) ?_
      refine Laid.cons _ _ _ (k0_off23_eq i) (slab_WQ arg3 harg3 x1 d (i 1).val 22 (by decide) ![0, 2816] rfl inb_S384x5120_S384x128_0_2816) ?_
      refine Laid.cons _ _ _ (k0_off22_eq i) (slab_WQ arg3 harg3 x1 d (i 1).val 21 (by decide) ![0, 2688] rfl inb_S384x5120_S384x128_0_2688) ?_
      refine Laid.cons _ _ _ (k0_off21_eq i) (slab_WQ arg3 harg3 x1 d (i 1).val 20 (by decide) ![0, 2560] rfl inb_S384x5120_S384x128_0_2560) ?_
      refine Laid.cons _ _ _ (k0_off20_eq i) (slab_WQ arg3 harg3 x1 d (i 1).val 19 (by decide) ![0, 2432] rfl inb_S384x5120_S384x128_0_2432) ?_
      refine Laid.cons _ _ _ (k0_off19_eq i) (slab_WQ arg3 harg3 x1 d (i 1).val 18 (by decide) ![0, 2304] rfl inb_S384x5120_S384x128_0_2304) ?_
      refine Laid.cons _ _ _ (k0_off18_eq i) (slab_WQ arg3 harg3 x1 d (i 1).val 17 (by decide) ![0, 2176] rfl inb_S384x5120_S384x128_0_2176) ?_
      refine Laid.cons _ _ _ (k0_off17_eq i) (slab_WQ arg3 harg3 x1 d (i 1).val 16 (by decide) ![0, 2048] rfl inb_S384x5120_S384x128_0_2048) ?_
      refine Laid.cons _ _ _ (k0_off16_eq i) (slab_WQ arg3 harg3 x1 d (i 1).val 15 (by decide) ![0, 1920] rfl inb_S384x5120_S384x128_0_1920) ?_
      refine Laid.cons _ _ _ (k0_off15_eq i) (slab_WQ arg3 harg3 x1 d (i 1).val 14 (by decide) ![0, 1792] rfl inb_S384x5120_S384x128_0_1792) ?_
      refine Laid.cons _ _ _ (k0_off14_eq i) (slab_WQ arg3 harg3 x1 d (i 1).val 13 (by decide) ![0, 1664] rfl inb_S384x5120_S384x128_0_1664) ?_
      refine Laid.cons _ _ _ (k0_off13_eq i) (slab_WQ arg3 harg3 x1 d (i 1).val 12 (by decide) ![0, 1536] rfl inb_S384x5120_S384x128_0_1536) ?_
      refine Laid.cons _ _ _ (k0_off12_eq i) (slab_WQ arg3 harg3 x1 d (i 1).val 11 (by decide) ![0, 1408] rfl inb_S384x5120_S384x128_0_1408) ?_
      refine Laid.cons _ _ _ (k0_off11_eq i) (slab_WQ arg3 harg3 x1 d (i 1).val 10 (by decide) ![0, 1280] rfl inb_S384x5120_S384x128_0_1280) ?_
      refine Laid.cons _ _ _ (k0_off10_eq i) (slab_WQ arg3 harg3 x1 d (i 1).val 9 (by decide) ![0, 1152] rfl inb_S384x5120_S384x128_0_1152) ?_
      refine Laid.cons _ _ _ (k0_off9_eq i) (slab_WQ arg3 harg3 x1 d (i 1).val 8 (by decide) ![0, 1024] rfl inb_S384x5120_S384x128_0_1024) ?_
      refine Laid.cons _ _ _ (k0_off8_eq i) (slab_WQ arg3 harg3 x1 d (i 1).val 7 (by decide) ![0, 896] rfl inb_S384x5120_S384x128_0_896) ?_
      refine Laid.cons _ _ _ (k0_off7_eq i) (slab_WQ arg3 harg3 x1 d (i 1).val 6 (by decide) ![0, 768] rfl inb_S384x5120_S384x128_0_768) ?_
      refine Laid.cons _ _ _ (k0_off6_eq i) (slab_WQ arg3 harg3 x1 d (i 1).val 5 (by decide) ![0, 640] rfl inb_S384x5120_S384x128_0_640) ?_
      refine Laid.cons _ _ _ (k0_off5_eq i) (slab_WQ arg3 harg3 x1 d (i 1).val 4 (by decide) ![0, 512] rfl inb_S384x5120_S384x128_0_512) ?_
      refine Laid.cons _ _ _ (k0_off4_eq i) (slab_WQ arg3 harg3 x1 d (i 1).val 3 (by decide) ![0, 384] rfl inb_S384x5120_S384x128_0_384) ?_
      refine Laid.cons _ _ _ (k0_off3_eq i) (slab_WQ arg3 harg3 x1 d (i 1).val 2 (by decide) ![0, 256] rfl inb_S384x5120_S384x128_0_256) ?_
      refine Laid.cons _ _ _ (k0_off2_eq i) (slab_WQ arg3 harg3 x1 d (i 1).val 1 (by decide) ![0, 128] rfl inb_S384x5120_S384x128_0_128) ?_
      refine Laid.cons _ _ _ (k0_off1_eq i) (slab_WQ arg3 harg3 x1 d (i 1).val 0 (by decide) ![0, 0] rfl inb_S384x5120_S384x128_0_0) ?_
      rfl
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      refine read_y _ _ inb_S1x256x384_S1x256x384_0_0_0 ?_ ?_
      · refine (load_getW _ _ (i 1).val hn (k0_off41 i) (k0_off41_eq i) _).trans ?_
        exact (congrArg _ (read_putW _ _ _ _ _ rfl _ (hWQ _))).trans (getW_putW _ hn _ _)
      · exact (load_full arg9.view _ inb_S5120x256_S5120x256_0_0).trans hfs0
    isplitl [H3]
    · iexists _; isplitr; swap; · iexact H3
      ipureintro
      exact hf3
    isplitl [H4]
    · iexists _; isplitr; swap; · iexact H4
      ipureintro
      exact hf4
    isplitl [H5]
    · iexists _; isplitr; swap; · iexact H5
      ipureintro
      refine Laid.read_eq (s := S384x5120) (off := offWC) (size := S384x128.size) (n := 40) _ _ ?_ fill_WC
      refine Laid.cons _ _ _ (rfl) (slab_WC arg3 harg3 x1 39 (by decide) ![0, 4992] rfl inb_S384x5120_S384x128_0_4992) ?_
      refine Laid.cons _ _ _ (rfl) (slab_WC arg3 harg3 x1 38 (by decide) ![0, 4864] rfl inb_S384x5120_S384x128_0_4864) ?_
      refine Laid.cons _ _ _ (rfl) (slab_WC arg3 harg3 x1 37 (by decide) ![0, 4736] rfl inb_S384x5120_S384x128_0_4736) ?_
      refine Laid.cons _ _ _ (rfl) (slab_WC arg3 harg3 x1 36 (by decide) ![0, 4608] rfl inb_S384x5120_S384x128_0_4608) ?_
      refine Laid.cons _ _ _ (rfl) (slab_WC arg3 harg3 x1 35 (by decide) ![0, 4480] rfl inb_S384x5120_S384x128_0_4480) ?_
      refine Laid.cons _ _ _ (rfl) (slab_WC arg3 harg3 x1 34 (by decide) ![0, 4352] rfl inb_S384x5120_S384x128_0_4352) ?_
      refine Laid.cons _ _ _ (rfl) (slab_WC arg3 harg3 x1 33 (by decide) ![0, 4224] rfl inb_S384x5120_S384x128_0_4224) ?_
      refine Laid.cons _ _ _ (rfl) (slab_WC arg3 harg3 x1 32 (by decide) ![0, 4096] rfl inb_S384x5120_S384x128_0_4096) ?_
      refine Laid.cons _ _ _ (rfl) (slab_WC arg3 harg3 x1 31 (by decide) ![0, 3968] rfl inb_S384x5120_S384x128_0_3968) ?_
      refine Laid.cons _ _ _ (rfl) (slab_WC arg3 harg3 x1 30 (by decide) ![0, 3840] rfl inb_S384x5120_S384x128_0_3840) ?_
      refine Laid.cons _ _ _ (rfl) (slab_WC arg3 harg3 x1 29 (by decide) ![0, 3712] rfl inb_S384x5120_S384x128_0_3712) ?_
      refine Laid.cons _ _ _ (rfl) (slab_WC arg3 harg3 x1 28 (by decide) ![0, 3584] rfl inb_S384x5120_S384x128_0_3584) ?_
      refine Laid.cons _ _ _ (rfl) (slab_WC arg3 harg3 x1 27 (by decide) ![0, 3456] rfl inb_S384x5120_S384x128_0_3456) ?_
      refine Laid.cons _ _ _ (rfl) (slab_WC arg3 harg3 x1 26 (by decide) ![0, 3328] rfl inb_S384x5120_S384x128_0_3328) ?_
      refine Laid.cons _ _ _ (rfl) (slab_WC arg3 harg3 x1 25 (by decide) ![0, 3200] rfl inb_S384x5120_S384x128_0_3200) ?_
      refine Laid.cons _ _ _ (rfl) (slab_WC arg3 harg3 x1 24 (by decide) ![0, 3072] rfl inb_S384x5120_S384x128_0_3072) ?_
      refine Laid.cons _ _ _ (rfl) (slab_WC arg3 harg3 x1 23 (by decide) ![0, 2944] rfl inb_S384x5120_S384x128_0_2944) ?_
      refine Laid.cons _ _ _ (rfl) (slab_WC arg3 harg3 x1 22 (by decide) ![0, 2816] rfl inb_S384x5120_S384x128_0_2816) ?_
      refine Laid.cons _ _ _ (rfl) (slab_WC arg3 harg3 x1 21 (by decide) ![0, 2688] rfl inb_S384x5120_S384x128_0_2688) ?_
      refine Laid.cons _ _ _ (rfl) (slab_WC arg3 harg3 x1 20 (by decide) ![0, 2560] rfl inb_S384x5120_S384x128_0_2560) ?_
      refine Laid.cons _ _ _ (rfl) (slab_WC arg3 harg3 x1 19 (by decide) ![0, 2432] rfl inb_S384x5120_S384x128_0_2432) ?_
      refine Laid.cons _ _ _ (rfl) (slab_WC arg3 harg3 x1 18 (by decide) ![0, 2304] rfl inb_S384x5120_S384x128_0_2304) ?_
      refine Laid.cons _ _ _ (rfl) (slab_WC arg3 harg3 x1 17 (by decide) ![0, 2176] rfl inb_S384x5120_S384x128_0_2176) ?_
      refine Laid.cons _ _ _ (rfl) (slab_WC arg3 harg3 x1 16 (by decide) ![0, 2048] rfl inb_S384x5120_S384x128_0_2048) ?_
      refine Laid.cons _ _ _ (rfl) (slab_WC arg3 harg3 x1 15 (by decide) ![0, 1920] rfl inb_S384x5120_S384x128_0_1920) ?_
      refine Laid.cons _ _ _ (rfl) (slab_WC arg3 harg3 x1 14 (by decide) ![0, 1792] rfl inb_S384x5120_S384x128_0_1792) ?_
      refine Laid.cons _ _ _ (rfl) (slab_WC arg3 harg3 x1 13 (by decide) ![0, 1664] rfl inb_S384x5120_S384x128_0_1664) ?_
      refine Laid.cons _ _ _ (rfl) (slab_WC arg3 harg3 x1 12 (by decide) ![0, 1536] rfl inb_S384x5120_S384x128_0_1536) ?_
      refine Laid.cons _ _ _ (rfl) (slab_WC arg3 harg3 x1 11 (by decide) ![0, 1408] rfl inb_S384x5120_S384x128_0_1408) ?_
      refine Laid.cons _ _ _ (rfl) (slab_WC arg3 harg3 x1 10 (by decide) ![0, 1280] rfl inb_S384x5120_S384x128_0_1280) ?_
      refine Laid.cons _ _ _ (rfl) (slab_WC arg3 harg3 x1 9 (by decide) ![0, 1152] rfl inb_S384x5120_S384x128_0_1152) ?_
      refine Laid.cons _ _ _ (rfl) (slab_WC arg3 harg3 x1 8 (by decide) ![0, 1024] rfl inb_S384x5120_S384x128_0_1024) ?_
      refine Laid.cons _ _ _ (rfl) (slab_WC arg3 harg3 x1 7 (by decide) ![0, 896] rfl inb_S384x5120_S384x128_0_896) ?_
      refine Laid.cons _ _ _ (rfl) (slab_WC arg3 harg3 x1 6 (by decide) ![0, 768] rfl inb_S384x5120_S384x128_0_768) ?_
      refine Laid.cons _ _ _ (rfl) (slab_WC arg3 harg3 x1 5 (by decide) ![0, 640] rfl inb_S384x5120_S384x128_0_640) ?_
      refine Laid.cons _ _ _ (rfl) (slab_WC arg3 harg3 x1 4 (by decide) ![0, 512] rfl inb_S384x5120_S384x128_0_512) ?_
      refine Laid.cons _ _ _ (rfl) (slab_WC arg3 harg3 x1 3 (by decide) ![0, 384] rfl inb_S384x5120_S384x128_0_384) ?_
      refine Laid.cons _ _ _ (rfl) (slab_WC arg3 harg3 x1 2 (by decide) ![0, 256] rfl inb_S384x5120_S384x128_0_256) ?_
      refine Laid.cons _ _ _ (rfl) (slab_WC arg3 harg3 x1 1 (by decide) ![0, 128] rfl inb_S384x5120_S384x128_0_128) ?_
      refine Laid.cons _ _ _ (rfl) (slab_WC arg3 harg3 x1 0 (by decide) ![0, 0] rfl inb_S384x5120_S384x128_0_0) ?_
      rfl
    isplitl [H6]
    · iexists _; isplitr; swap; · iexact H6
      ipureintro
      refine Laid.read_eq (s := S40x384) (off := offWS) (size := S1x384.size) (n := 40) _ _ ?_ fill_WS
      refine Laid.cons _ _ _ (rfl) (slab_WS arg3 harg3 x1 39 (by decide) ![0, 4992] rfl inb_S384x5120_S384x128_0_4992) ?_
      refine Laid.cons _ _ _ (rfl) (slab_WS arg3 harg3 x1 38 (by decide) ![0, 4864] rfl inb_S384x5120_S384x128_0_4864) ?_
      refine Laid.cons _ _ _ (rfl) (slab_WS arg3 harg3 x1 37 (by decide) ![0, 4736] rfl inb_S384x5120_S384x128_0_4736) ?_
      refine Laid.cons _ _ _ (rfl) (slab_WS arg3 harg3 x1 36 (by decide) ![0, 4608] rfl inb_S384x5120_S384x128_0_4608) ?_
      refine Laid.cons _ _ _ (rfl) (slab_WS arg3 harg3 x1 35 (by decide) ![0, 4480] rfl inb_S384x5120_S384x128_0_4480) ?_
      refine Laid.cons _ _ _ (rfl) (slab_WS arg3 harg3 x1 34 (by decide) ![0, 4352] rfl inb_S384x5120_S384x128_0_4352) ?_
      refine Laid.cons _ _ _ (rfl) (slab_WS arg3 harg3 x1 33 (by decide) ![0, 4224] rfl inb_S384x5120_S384x128_0_4224) ?_
      refine Laid.cons _ _ _ (rfl) (slab_WS arg3 harg3 x1 32 (by decide) ![0, 4096] rfl inb_S384x5120_S384x128_0_4096) ?_
      refine Laid.cons _ _ _ (rfl) (slab_WS arg3 harg3 x1 31 (by decide) ![0, 3968] rfl inb_S384x5120_S384x128_0_3968) ?_
      refine Laid.cons _ _ _ (rfl) (slab_WS arg3 harg3 x1 30 (by decide) ![0, 3840] rfl inb_S384x5120_S384x128_0_3840) ?_
      refine Laid.cons _ _ _ (rfl) (slab_WS arg3 harg3 x1 29 (by decide) ![0, 3712] rfl inb_S384x5120_S384x128_0_3712) ?_
      refine Laid.cons _ _ _ (rfl) (slab_WS arg3 harg3 x1 28 (by decide) ![0, 3584] rfl inb_S384x5120_S384x128_0_3584) ?_
      refine Laid.cons _ _ _ (rfl) (slab_WS arg3 harg3 x1 27 (by decide) ![0, 3456] rfl inb_S384x5120_S384x128_0_3456) ?_
      refine Laid.cons _ _ _ (rfl) (slab_WS arg3 harg3 x1 26 (by decide) ![0, 3328] rfl inb_S384x5120_S384x128_0_3328) ?_
      refine Laid.cons _ _ _ (rfl) (slab_WS arg3 harg3 x1 25 (by decide) ![0, 3200] rfl inb_S384x5120_S384x128_0_3200) ?_
      refine Laid.cons _ _ _ (rfl) (slab_WS arg3 harg3 x1 24 (by decide) ![0, 3072] rfl inb_S384x5120_S384x128_0_3072) ?_
      refine Laid.cons _ _ _ (rfl) (slab_WS arg3 harg3 x1 23 (by decide) ![0, 2944] rfl inb_S384x5120_S384x128_0_2944) ?_
      refine Laid.cons _ _ _ (rfl) (slab_WS arg3 harg3 x1 22 (by decide) ![0, 2816] rfl inb_S384x5120_S384x128_0_2816) ?_
      refine Laid.cons _ _ _ (rfl) (slab_WS arg3 harg3 x1 21 (by decide) ![0, 2688] rfl inb_S384x5120_S384x128_0_2688) ?_
      refine Laid.cons _ _ _ (rfl) (slab_WS arg3 harg3 x1 20 (by decide) ![0, 2560] rfl inb_S384x5120_S384x128_0_2560) ?_
      refine Laid.cons _ _ _ (rfl) (slab_WS arg3 harg3 x1 19 (by decide) ![0, 2432] rfl inb_S384x5120_S384x128_0_2432) ?_
      refine Laid.cons _ _ _ (rfl) (slab_WS arg3 harg3 x1 18 (by decide) ![0, 2304] rfl inb_S384x5120_S384x128_0_2304) ?_
      refine Laid.cons _ _ _ (rfl) (slab_WS arg3 harg3 x1 17 (by decide) ![0, 2176] rfl inb_S384x5120_S384x128_0_2176) ?_
      refine Laid.cons _ _ _ (rfl) (slab_WS arg3 harg3 x1 16 (by decide) ![0, 2048] rfl inb_S384x5120_S384x128_0_2048) ?_
      refine Laid.cons _ _ _ (rfl) (slab_WS arg3 harg3 x1 15 (by decide) ![0, 1920] rfl inb_S384x5120_S384x128_0_1920) ?_
      refine Laid.cons _ _ _ (rfl) (slab_WS arg3 harg3 x1 14 (by decide) ![0, 1792] rfl inb_S384x5120_S384x128_0_1792) ?_
      refine Laid.cons _ _ _ (rfl) (slab_WS arg3 harg3 x1 13 (by decide) ![0, 1664] rfl inb_S384x5120_S384x128_0_1664) ?_
      refine Laid.cons _ _ _ (rfl) (slab_WS arg3 harg3 x1 12 (by decide) ![0, 1536] rfl inb_S384x5120_S384x128_0_1536) ?_
      refine Laid.cons _ _ _ (rfl) (slab_WS arg3 harg3 x1 11 (by decide) ![0, 1408] rfl inb_S384x5120_S384x128_0_1408) ?_
      refine Laid.cons _ _ _ (rfl) (slab_WS arg3 harg3 x1 10 (by decide) ![0, 1280] rfl inb_S384x5120_S384x128_0_1280) ?_
      refine Laid.cons _ _ _ (rfl) (slab_WS arg3 harg3 x1 9 (by decide) ![0, 1152] rfl inb_S384x5120_S384x128_0_1152) ?_
      refine Laid.cons _ _ _ (rfl) (slab_WS arg3 harg3 x1 8 (by decide) ![0, 1024] rfl inb_S384x5120_S384x128_0_1024) ?_
      refine Laid.cons _ _ _ (rfl) (slab_WS arg3 harg3 x1 7 (by decide) ![0, 896] rfl inb_S384x5120_S384x128_0_896) ?_
      refine Laid.cons _ _ _ (rfl) (slab_WS arg3 harg3 x1 6 (by decide) ![0, 768] rfl inb_S384x5120_S384x128_0_768) ?_
      refine Laid.cons _ _ _ (rfl) (slab_WS arg3 harg3 x1 5 (by decide) ![0, 640] rfl inb_S384x5120_S384x128_0_640) ?_
      refine Laid.cons _ _ _ (rfl) (slab_WS arg3 harg3 x1 4 (by decide) ![0, 512] rfl inb_S384x5120_S384x128_0_512) ?_
      refine Laid.cons _ _ _ (rfl) (slab_WS arg3 harg3 x1 3 (by decide) ![0, 384] rfl inb_S384x5120_S384x128_0_384) ?_
      refine Laid.cons _ _ _ (rfl) (slab_WS arg3 harg3 x1 2 (by decide) ![0, 256] rfl inb_S384x5120_S384x128_0_256) ?_
      refine Laid.cons _ _ _ (rfl) (slab_WS arg3 harg3 x1 1 (by decide) ![0, 128] rfl inb_S384x5120_S384x128_0_128) ?_
      refine Laid.cons _ _ _ (rfl) (slab_WS arg3 harg3 x1 0 (by decide) ![0, 0] rfl inb_S384x5120_S384x128_0_0) ?_
      rfl
    isplitl [HS0]
    · iexists _; isplitr; swap; · iexact HS0
      ipureintro
      exact hfs0
    iexists _; isplitr; swap; · iexact HS1
    ipureintro
    exact read_putW _ _ _ _ _ hfs1 _ (hWQ d)

end Cert.KernelIdeal.Gen

end
-- ==== Proof.KI.RunC.lean ====
/-
  One run of the kernel body with every buffer named: the first point of a later token tile: the token tile is quantised.
-/
module

public import proofs.«01_k».proof.Proof.KI.RunB

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2484000 in
theorem bodyRun_C (c : Dev nD) (i : grid0.Coords) (arg2 : Memref sig .tc .vmem S1x5120x256 .bf16) (harg2 : arg2.IsWhole) (arg3 : Memref sig .tc .vmem S384x5120 .bf16) (harg3 : arg3.IsWhole) (arg4 : Memref sig .tc .vmem S1x256x384 .bf16) (harg4 : arg4.IsWhole) (arg5 : Memref sig .tc .vmem S1x5120x256 .fp8e4m3) (harg5 : arg5.IsWhole) (arg6 : Memref sig .tc .vmem S1x40x256 .f32) (harg6 : arg6.IsWhole) (arg7 : Memref sig .tc .vmem S384x5120 .fp8e4m3) (harg7 : arg7.IsWhole) (arg8 : Memref sig .tc .vmem S40x384 .f32) (harg8 : arg8.IsWhole) (arg9 : Memref sig .tc .vmem S5120x256 .bf16) (harg9 : arg9.IsWhole) (arg10 : Memref sig .tc .vmem S3456x5120 .bf16) (harg10 : arg10.IsWhole) (hc0 : cond0_0 i) (hc1 : ¬cond0_1 i)
    (x0 : Vec F S1x5120x256 .bf16) (x1 : Vec F S384x5120 .bf16) (d2 : Vec F S1x256x384 .bf16)
    (d3 : Vec F S1x5120x256 .fp8e4m3) (d4 : Vec F S1x40x256 .f32) (d5 : Vec F S384x5120 .fp8e4m3) (d6 : Vec F S40x384 .f32)
    (e : Vec F S5120x256 .bf16) (d : Vec F S3456x5120 .bf16) :
      ∀ (E : Set ℕ) (K : PUnit → sProp 𝕄),
        iprop(owns (c : Thread nD τ) arg2 fullShare x0
            ∗ owns (c : Thread nD τ) arg3 fullShare x1
            ∗ owns (c : Thread nD τ) arg4 fullShare d2
            ∗ owns (c : Thread nD τ) arg5 fullShare d3
            ∗ owns (c : Thread nD τ) arg6 fullShare d4
            ∗ owns (c : Thread nD τ) arg7 fullShare d5
            ∗ owns (c : Thread nD τ) arg8 fullShare d6
            ∗ owns (c : Thread nD τ) arg9 fullShare e
            ∗ owns (c : Thread nD τ) arg10 fullShare d
            ∗ (iprop(owns (c : Thread nD τ) arg2 fullShare x0
              ∗ owns (c : Thread nD τ) arg3 fullShare x1
              ∗ owns (c : Thread nD τ) arg4 fullShare (k0_pay1 (getW (i 1).val d) (XQ x0))
              ∗ owns (c : Thread nD τ) arg5 fullShare (XC x0)
              ∗ owns (c : Thread nD τ) arg6 fullShare (XS x0)
              ∗ owns (c : Thread nD τ) arg7 fullShare d5
              ∗ owns (c : Thread nD τ) arg8 fullShare d6
              ∗ owns (c : Thread nD τ) arg9 fullShare (XQ x0)
              ∗ owns (c : Thread nD τ) arg10 fullShare d) -∗ K ⟨⟩))
          ⊢ wp frame (wpE (defs₀ (F := F)) Variants.none c none) E (cc0_fp8_group_linear i arg2 harg2 arg3 harg3 arg4 harg4 arg5 harg5 arg6 harg6 arg7 harg7 arg8 harg8 arg9 harg9 arg10 harg10) K := by
    intro E K
    simp only [cc0_fp8_group_linear_eq_skeleton]; unfold cc0_fp8_group_linear_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton]
    unfold owns
    iintro ⟨⟨%f0, %hf0, H0⟩, ⟨%f1, %hf1, H1⟩, ⟨%f2, -, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1
    sl_exec (disch := first | sl_exact hc0 | sl_exact hc1)
    have hn : (i 1).val < 9 := (i 1).isLt
    have hXQ : Laid (Val := Elt F) (XQ x0) offXQ S128x256.size 40 (bodyRun_C.sl.HS0_40 c arg2 harg2 x0) := by
      refine Laid.cons _ _ _ (rfl) (slab_XQ arg2 harg2 x0 39 (by decide) ![0, 4992, 0] rfl inb_S1x5120x256_S1x128x256_0_4992_0) ?_
      refine Laid.cons _ _ _ (rfl) (slab_XQ arg2 harg2 x0 38 (by decide) ![0, 4864, 0] rfl inb_S1x5120x256_S1x128x256_0_4864_0) ?_
      refine Laid.cons _ _ _ (rfl) (slab_XQ arg2 harg2 x0 37 (by decide) ![0, 4736, 0] rfl inb_S1x5120x256_S1x128x256_0_4736_0) ?_
      refine Laid.cons _ _ _ (rfl) (slab_XQ arg2 harg2 x0 36 (by decide) ![0, 4608, 0] rfl inb_S1x5120x256_S1x128x256_0_4608_0) ?_
      refine Laid.cons _ _ _ (rfl) (slab_XQ arg2 harg2 x0 35 (by decide) ![0, 4480, 0] rfl inb_S1x5120x256_S1x128x256_0_4480_0) ?_
      refine Laid.cons _ _ _ (rfl) (slab_XQ arg2 harg2 x0 34 (by decide) ![0, 4352, 0] rfl inb_S1x5120x256_S1x128x256_0_4352_0) ?_
      refine Laid.cons _ _ _ (rfl) (slab_XQ arg2 harg2 x0 33 (by decide) ![0, 4224, 0] rfl inb_S1x5120x256_S1x128x256_0_4224_0) ?_
      refine Laid.cons _ _ _ (rfl) (slab_XQ arg2 harg2 x0 32 (by decide) ![0, 4096, 0] rfl inb_S1x5120x256_S1x128x256_0_4096_0) ?_
      refine Laid.cons _ _ _ (rfl) (slab_XQ arg2 harg2 x0 31 (by decide) ![0, 3968, 0] rfl inb_S1x5120x256_S1x128x256_0_3968_0) ?_
      refine Laid.cons _ _ _ (rfl) (slab_XQ arg2 harg2 x0 30 (by decide) ![0, 3840, 0] rfl inb_S1x5120x256_S1x128x256_0_3840_0) ?_
      refine Laid.cons _ _ _ (rfl) (slab_XQ arg2 harg2 x0 29 (by decide) ![0, 3712, 0] rfl inb_S1x5120x256_S1x128x256_0_3712_0) ?_
      refine Laid.cons _ _ _ (rfl) (slab_XQ arg2 harg2 x0 28 (by decide) ![0, 3584, 0] rfl inb_S1x5120x256_S1x128x256_0_3584_0) ?_
      refine Laid.cons _ _ _ (rfl) (slab_XQ arg2 harg2 x0 27 (by decide) ![0, 3456, 0] rfl inb_S1x5120x256_S1x128x256_0_3456_0) ?_
      refine Laid.cons _ _ _ (rfl) (slab_XQ arg2 harg2 x0 26 (by decide) ![0, 3328, 0] rfl inb_S1x5120x256_S1x128x256_0_3328_0) ?_
      refine Laid.cons _ _ _ (rfl) (slab_XQ arg2 harg2 x0 25 (by decide) ![0, 3200, 0] rfl inb_S1x5120x256_S1x128x256_0_3200_0) ?_
      refine Laid.cons _ _ _ (rfl) (slab_XQ arg2 harg2 x0 24 (by decide) ![0, 3072, 0] rfl inb_S1x5120x256_S1x128x256_0_3072_0) ?_
      refine Laid.cons _ _ _ (rfl) (slab_XQ arg2 harg2 x0 23 (by decide) ![0, 2944, 0] rfl inb_S1x5120x256_S1x128x256_0_2944_0) ?_
      refine Laid.cons _ _ _ (rfl) (slab_XQ arg2 harg2 x0 22 (by decide) ![0, 2816, 0] rfl inb_S1x5120x256_S1x128x256_0_2816_0) ?_
      refine Laid.cons _ _ _ (rfl) (slab_XQ arg2 harg2 x0 21 (by decide) ![0, 2688, 0] rfl inb_S1x5120x256_S1x128x256_0_2688_0) ?_
      refine Laid.cons _ _ _ (rfl) (slab_XQ arg2 harg2 x0 20 (by decide) ![0, 2560, 0] rfl inb_S1x5120x256_S1x128x256_0_2560_0) ?_
      refine Laid.cons _ _ _ (rfl) (slab_XQ arg2 harg2 x0 19 (by decide) ![0, 2432, 0] rfl inb_S1x5120x256_S1x128x256_0_2432_0) ?_
      refine Laid.cons _ _ _ (rfl) (slab_XQ arg2 harg2 x0 18 (by decide) ![0, 2304, 0] rfl inb_S1x5120x256_S1x128x256_0_2304_0) ?_
      refine Laid.cons _ _ _ (rfl) (slab_XQ arg2 harg2 x0 17 (by decide) ![0, 2176, 0] rfl inb_S1x5120x256_S1x128x256_0_2176_0) ?_
      refine Laid.cons _ _ _ (rfl) (slab_XQ arg2 harg2 x0 16 (by decide) ![0, 2048, 0] rfl inb_S1x5120x256_S1x128x256_0_2048_0) ?_
      refine Laid.cons _ _ _ (rfl) (slab_XQ arg2 harg2 x0 15 (by decide) ![0, 1920, 0] rfl inb_S1x5120x256_S1x128x256_0_1920_0) ?_
      refine Laid.cons _ _ _ (rfl) (slab_XQ arg2 harg2 x0 14 (by decide) ![0, 1792, 0] rfl inb_S1x5120x256_S1x128x256_0_1792_0) ?_
      refine Laid.cons _ _ _ (rfl) (slab_XQ arg2 harg2 x0 13 (by decide) ![0, 1664, 0] rfl inb_S1x5120x256_S1x128x256_0_1664_0) ?_
      refine Laid.cons _ _ _ (rfl) (slab_XQ arg2 harg2 x0 12 (by decide) ![0, 1536, 0] rfl inb_S1x5120x256_S1x128x256_0_1536_0) ?_
      refine Laid.cons _ _ _ (rfl) (slab_XQ arg2 harg2 x0 11 (by decide) ![0, 1408, 0] rfl inb_S1x5120x256_S1x128x256_0_1408_0) ?_
      refine Laid.cons _ _ _ (rfl) (slab_XQ arg2 harg2 x0 10 (by decide) ![0, 1280, 0] rfl inb_S1x5120x256_S1x128x256_0_1280_0) ?_
      refine Laid.cons _ _ _ (rfl) (slab_XQ arg2 harg2 x0 9 (by decide) ![0, 1152, 0] rfl inb_S1x5120x256_S1x128x256_0_1152_0) ?_
      refine Laid.cons _ _ _ (rfl) (slab_XQ arg2 harg2 x0 8 (by decide) ![0, 1024, 0] rfl inb_S1x5120x256_S1x128x256_0_1024_0) ?_
      refine Laid.cons _ _ _ (rfl) (slab_XQ arg2 harg2 x0 7 (by decide) ![0, 896, 0] rfl inb_S1x5120x256_S1x128x256_0_896_0) ?_
      refine Laid.cons _ _ _ (rfl) (slab_XQ arg2 harg2 x0 6 (by decide) ![0, 768, 0] rfl inb_S1x5120x256_S1x128x256_0_768_0) ?_
      refine Laid.cons _ _ _ (rfl) (slab_XQ arg2 harg2 x0 5 (by decide) ![0, 640, 0] rfl inb_S1x5120x256_S1x128x256_0_640_0) ?_
      refine Laid.cons _ _ _ (rfl) (slab_XQ arg2 harg2 x0 4 (by decide) ![0, 512, 0] rfl inb_S1x5120x256_S1x128x256_0_512_0) ?_
      refine Laid.cons _ _ _ (rfl) (slab_XQ arg2 harg2 x0 3 (by decide) ![0, 384, 0] rfl inb_S1x5120x256_S1x128x256_0_384_0) ?_
      refine Laid.cons _ _ _ (rfl) (slab_XQ arg2 harg2 x0 2 (by decide) ![0, 256, 0] rfl inb_S1x5120x256_S1x128x256_0_256_0) ?_
      refine Laid.cons _ _ _ (rfl) (slab_XQ arg2 harg2 x0 1 (by decide) ![0, 128, 0] rfl inb_S1x5120x256_S1x128x256_0_128_0) ?_
      refine Laid.cons _ _ _ (rfl) (slab_XQ arg2 harg2 x0 0 (by decide) ![0, 0, 0] rfl inb_S1x5120x256_S1x128x256_0_0_0) ?_
      rfl
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      refine read_y _ _ inb_S1x256x384_S1x256x384_0_0_0 ?_ ?_
      · refine (load_getW _ _ (i 1).val hn (k0_off41 i) (k0_off41_eq i) _).trans ?_
        rw [hfs1]
      · exact (load_full arg9.view (arg9.view.writes (Elt F) arg9.view.junk _) inb_S5120x256_S5120x256_0_0).trans (hXQ.read_eq arg9.view arg9.view.junk fill_XQ)
    isplitl [H3]
    · iexists _; isplitr; swap; · iexact H3
      ipureintro
      refine Laid.read_eq (s := S1x5120x256) (off := offXC) (size := S1x128x256.size) (n := 40) _ _ ?_ fill_XC
      refine Laid.cons _ _ _ (rfl) (slab_XC arg2 harg2 x0 39 (by decide) ![0, 4992, 0] rfl inb_S1x5120x256_S1x128x256_0_4992_0) ?_
      refine Laid.cons _ _ _ (rfl) (slab_XC arg2 harg2 x0 38 (by decide) ![0, 4864, 0] rfl inb_S1x5120x256_S1x128x256_0_4864_0) ?_
      refine Laid.cons _ _ _ (rfl) (slab_XC arg2 harg2 x0 37 (by decide) ![0, 4736, 0] rfl inb_S1x5120x256_S1x128x256_0_4736_0) ?_
      refine Laid.cons _ _ _ (rfl) (slab_XC arg2 harg2 x0 36 (by decide) ![0, 4608, 0] rfl inb_S1x5120x256_S1x128x256_0_4608_0) ?_
      refine Laid.cons _ _ _ (rfl) (slab_XC arg2 harg2 x0 35 (by decide) ![0, 4480, 0] rfl inb_S1x5120x256_S1x128x256_0_4480_0) ?_
      refine Laid.cons _ _ _ (rfl) (slab_XC arg2 harg2 x0 34 (by decide) ![0, 4352, 0] rfl inb_S1x5120x256_S1x128x256_0_4352_0) ?_
      refine Laid.cons _ _ _ (rfl) (slab_XC arg2 harg2 x0 33 (by decide) ![0, 4224, 0] rfl inb_S1x5120x256_S1x128x256_0_4224_0) ?_
      refine Laid.cons _ _ _ (rfl) (slab_XC arg2 harg2 x0 32 (by decide) ![0, 4096, 0] rfl inb_S1x5120x256_S1x128x256_0_4096_0) ?_
      refine Laid.cons _ _ _ (rfl) (slab_XC arg2 harg2 x0 31 (by decide) ![0, 3968, 0] rfl inb_S1x5120x256_S1x128x256_0_3968_0) ?_
      refine Laid.cons _ _ _ (rfl) (slab_XC arg2 harg2 x0 30 (by decide) ![0, 3840, 0] rfl inb_S1x5120x256_S1x128x256_0_3840_0) ?_
      refine Laid.cons _ _ _ (rfl) (slab_XC arg2 harg2 x0 29 (by decide) ![0, 3712, 0] rfl inb_S1x5120x256_S1x128x256_0_3712_0) ?_
      refine Laid.cons _ _ _ (rfl) (slab_XC arg2 harg2 x0 28 (by decide) ![0, 3584, 0] rfl inb_S1x5120x256_S1x128x256_0_3584_0) ?_
      refine Laid.cons _ _ _ (rfl) (slab_XC arg2 harg2 x0 27 (by decide) ![0, 3456, 0] rfl inb_S1x5120x256_S1x128x256_0_3456_0) ?_
      refine Laid.cons _ _ _ (rfl) (slab_XC arg2 harg2 x0 26 (by decide) ![0, 3328, 0] rfl inb_S1x5120x256_S1x128x256_0_3328_0) ?_
      refine Laid.cons _ _ _ (rfl) (slab_XC arg2 harg2 x0 25 (by decide) ![0, 3200, 0] rfl inb_S1x5120x256_S1x128x256_0_3200_0) ?_
      refine Laid.cons _ _ _ (rfl) (slab_XC arg2 harg2 x0 24 (by decide) ![0, 3072, 0] rfl inb_S1x5120x256_S1x128x256_0_3072_0) ?_
      refine Laid.cons _ _ _ (rfl) (slab_XC arg2 harg2 x0 23 (by decide) ![0, 2944, 0] rfl inb_S1x5120x256_S1x128x256_0_2944_0) ?_
      refine Laid.cons _ _ _ (rfl) (slab_XC arg2 harg2 x0 22 (by decide) ![0, 2816, 0] rfl inb_S1x5120x256_S1x128x256_0_2816_0) ?_
      refine Laid.cons _ _ _ (rfl) (slab_XC arg2 harg2 x0 21 (by decide) ![0, 2688, 0] rfl inb_S1x5120x256_S1x128x256_0_2688_0) ?_
      refine Laid.cons _ _ _ (rfl) (slab_XC arg2 harg2 x0 20 (by decide) ![0, 2560, 0] rfl inb_S1x5120x256_S1x128x256_0_2560_0) ?_
      refine Laid.cons _ _ _ (rfl) (slab_XC arg2 harg2 x0 19 (by decide) ![0, 2432, 0] rfl inb_S1x5120x256_S1x128x256_0_2432_0) ?_
      refine Laid.cons _ _ _ (rfl) (slab_XC arg2 harg2 x0 18 (by decide) ![0, 2304, 0] rfl inb_S1x5120x256_S1x128x256_0_2304_0) ?_
      refine Laid.cons _ _ _ (rfl) (slab_XC arg2 harg2 x0 17 (by decide) ![0, 2176, 0] rfl inb_S1x5120x256_S1x128x256_0_2176_0) ?_
      refine Laid.cons _ _ _ (rfl) (slab_XC arg2 harg2 x0 16 (by decide) ![0, 2048, 0] rfl inb_S1x5120x256_S1x128x256_0_2048_0) ?_
      refine Laid.cons _ _ _ (rfl) (slab_XC arg2 harg2 x0 15 (by decide) ![0, 1920, 0] rfl inb_S1x5120x256_S1x128x256_0_1920_0) ?_
      refine Laid.cons _ _ _ (rfl) (slab_XC arg2 harg2 x0 14 (by decide) ![0, 1792, 0] rfl inb_S1x5120x256_S1x128x256_0_1792_0) ?_
      refine Laid.cons _ _ _ (rfl) (slab_XC arg2 harg2 x0 13 (by decide) ![0, 1664, 0] rfl inb_S1x5120x256_S1x128x256_0_1664_0) ?_
      refine Laid.cons _ _ _ (rfl) (slab_XC arg2 harg2 x0 12 (by decide) ![0, 1536, 0] rfl inb_S1x5120x256_S1x128x256_0_1536_0) ?_
      refine Laid.cons _ _ _ (rfl) (slab_XC arg2 harg2 x0 11 (by decide) ![0, 1408, 0] rfl inb_S1x5120x256_S1x128x256_0_1408_0) ?_
      refine Laid.cons _ _ _ (rfl) (slab_XC arg2 harg2 x0 10 (by decide) ![0, 1280, 0] rfl inb_S1x5120x256_S1x128x256_0_1280_0) ?_
      refine Laid.cons _ _ _ (rfl) (slab_XC arg2 harg2 x0 9 (by decide) ![0, 1152, 0] rfl inb_S1x5120x256_S1x128x256_0_1152_0) ?_
      refine Laid.cons _ _ _ (rfl) (slab_XC arg2 harg2 x0 8 (by decide) ![0, 1024, 0] rfl inb_S1x5120x256_S1x128x256_0_1024_0) ?_
      refine Laid.cons _ _ _ (rfl) (slab_XC arg2 harg2 x0 7 (by decide) ![0, 896, 0] rfl inb_S1x5120x256_S1x128x256_0_896_0) ?_
      refine Laid.cons _ _ _ (rfl) (slab_XC arg2 harg2 x0 6 (by decide) ![0, 768, 0] rfl inb_S1x5120x256_S1x128x256_0_768_0) ?_
      refine Laid.cons _ _ _ (rfl) (slab_XC arg2 harg2 x0 5 (by decide) ![0, 640, 0] rfl inb_S1x5120x256_S1x128x256_0_640_0) ?_
      refine Laid.cons _ _ _ (rfl) (slab_XC arg2 harg2 x0 4 (by decide) ![0, 512, 0] rfl inb_S1x5120x256_S1x128x256_0_512_0) ?_
      refine Laid.cons _ _ _ (rfl) (slab_XC arg2 harg2 x0 3 (by decide) ![0, 384, 0] rfl inb_S1x5120x256_S1x128x256_0_384_0) ?_
      refine Laid.cons _ _ _ (rfl) (slab_XC arg2 harg2 x0 2 (by decide) ![0, 256, 0] rfl inb_S1x5120x256_S1x128x256_0_256_0) ?_
      refine Laid.cons _ _ _ (rfl) (slab_XC arg2 harg2 x0 1 (by decide) ![0, 128, 0] rfl inb_S1x5120x256_S1x128x256_0_128_0) ?_
      refine Laid.cons _ _ _ (rfl) (slab_XC arg2 harg2 x0 0 (by decide) ![0, 0, 0] rfl inb_S1x5120x256_S1x128x256_0_0_0) ?_
      rfl
    isplitl [H4]
    · iexists _; isplitr; swap; · iexact H4
      ipureintro
      refine Laid.read_eq (s := S1x40x256) (off := offXS) (size := S1x1x256.size) (n := 40) _ _ ?_ fill_XS
      refine Laid.cons _ _ _ (rfl) (slab_XS arg2 harg2 x0 39 (by decide) ![0, 4992, 0] rfl inb_S1x5120x256_S1x128x256_0_4992_0) ?_
      refine Laid.cons _ _ _ (rfl) (slab_XS arg2 harg2 x0 38 (by decide) ![0, 4864, 0] rfl inb_S1x5120x256_S1x128x256_0_4864_0) ?_
      refine Laid.cons _ _ _ (rfl) (slab_XS arg2 harg2 x0 37 (by decide) ![0, 4736, 0] rfl inb_S1x5120x256_S1x128x256_0_4736_0) ?_
      refine Laid.cons _ _ _ (rfl) (slab_XS arg2 harg2 x0 36 (by decide) ![0, 4608, 0] rfl inb_S1x5120x256_S1x128x256_0_4608_0) ?_
      refine Laid.cons _ _ _ (rfl) (slab_XS arg2 harg2 x0 35 (by decide) ![0, 4480, 0] rfl inb_S1x5120x256_S1x128x256_0_4480_0) ?_
      refine Laid.cons _ _ _ (rfl) (slab_XS arg2 harg2 x0 34 (by decide) ![0, 4352, 0] rfl inb_S1x5120x256_S1x128x256_0_4352_0) ?_
      refine Laid.cons _ _ _ (rfl) (slab_XS arg2 harg2 x0 33 (by decide) ![0, 4224, 0] rfl inb_S1x5120x256_S1x128x256_0_4224_0) ?_
      refine Laid.cons _ _ _ (rfl) (slab_XS arg2 harg2 x0 32 (by decide) ![0, 4096, 0] rfl inb_S1x5120x256_S1x128x256_0_4096_0) ?_
      refine Laid.cons _ _ _ (rfl) (slab_XS arg2 harg2 x0 31 (by decide) ![0, 3968, 0] rfl inb_S1x5120x256_S1x128x256_0_3968_0) ?_
      refine Laid.cons _ _ _ (rfl) (slab_XS arg2 harg2 x0 30 (by decide) ![0, 3840, 0] rfl inb_S1x5120x256_S1x128x256_0_3840_0) ?_
      refine Laid.cons _ _ _ (rfl) (slab_XS arg2 harg2 x0 29 (by decide) ![0, 3712, 0] rfl inb_S1x5120x256_S1x128x256_0_3712_0) ?_
      refine Laid.cons _ _ _ (rfl) (slab_XS arg2 harg2 x0 28 (by decide) ![0, 3584, 0] rfl inb_S1x5120x256_S1x128x256_0_3584_0) ?_
      refine Laid.cons _ _ _ (rfl) (slab_XS arg2 harg2 x0 27 (by decide) ![0, 3456, 0] rfl inb_S1x5120x256_S1x128x256_0_3456_0) ?_
      refine Laid.cons _ _ _ (rfl) (slab_XS arg2 harg2 x0 26 (by decide) ![0, 3328, 0] rfl inb_S1x5120x256_S1x128x256_0_3328_0) ?_
      refine Laid.cons _ _ _ (rfl) (slab_XS arg2 harg2 x0 25 (by decide) ![0, 3200, 0] rfl inb_S1x5120x256_S1x128x256_0_3200_0) ?_
      refine Laid.cons _ _ _ (rfl) (slab_XS arg2 harg2 x0 24 (by decide) ![0, 3072, 0] rfl inb_S1x5120x256_S1x128x256_0_3072_0) ?_
      refine Laid.cons _ _ _ (rfl) (slab_XS arg2 harg2 x0 23 (by decide) ![0, 2944, 0] rfl inb_S1x5120x256_S1x128x256_0_2944_0) ?_
      refine Laid.cons _ _ _ (rfl) (slab_XS arg2 harg2 x0 22 (by decide) ![0, 2816, 0] rfl inb_S1x5120x256_S1x128x256_0_2816_0) ?_
      refine Laid.cons _ _ _ (rfl) (slab_XS arg2 harg2 x0 21 (by decide) ![0, 2688, 0] rfl inb_S1x5120x256_S1x128x256_0_2688_0) ?_
      refine Laid.cons _ _ _ (rfl) (slab_XS arg2 harg2 x0 20 (by decide) ![0, 2560, 0] rfl inb_S1x5120x256_S1x128x256_0_2560_0) ?_
      refine Laid.cons _ _ _ (rfl) (slab_XS arg2 harg2 x0 19 (by decide) ![0, 2432, 0] rfl inb_S1x5120x256_S1x128x256_0_2432_0) ?_
      refine Laid.cons _ _ _ (rfl) (slab_XS arg2 harg2 x0 18 (by decide) ![0, 2304, 0] rfl inb_S1x5120x256_S1x128x256_0_2304_0) ?_
      refine Laid.cons _ _ _ (rfl) (slab_XS arg2 harg2 x0 17 (by decide) ![0, 2176, 0] rfl inb_S1x5120x256_S1x128x256_0_2176_0) ?_
      refine Laid.cons _ _ _ (rfl) (slab_XS arg2 harg2 x0 16 (by decide) ![0, 2048, 0] rfl inb_S1x5120x256_S1x128x256_0_2048_0) ?_
      refine Laid.cons _ _ _ (rfl) (slab_XS arg2 harg2 x0 15 (by decide) ![0, 1920, 0] rfl inb_S1x5120x256_S1x128x256_0_1920_0) ?_
      refine Laid.cons _ _ _ (rfl) (slab_XS arg2 harg2 x0 14 (by decide) ![0, 1792, 0] rfl inb_S1x5120x256_S1x128x256_0_1792_0) ?_
      refine Laid.cons _ _ _ (rfl) (slab_XS arg2 harg2 x0 13 (by decide) ![0, 1664, 0] rfl inb_S1x5120x256_S1x128x256_0_1664_0) ?_
      refine Laid.cons _ _ _ (rfl) (slab_XS arg2 harg2 x0 12 (by decide) ![0, 1536, 0] rfl inb_S1x5120x256_S1x128x256_0_1536_0) ?_
      refine Laid.cons _ _ _ (rfl) (slab_XS arg2 harg2 x0 11 (by decide) ![0, 1408, 0] rfl inb_S1x5120x256_S1x128x256_0_1408_0) ?_
      refine Laid.cons _ _ _ (rfl) (slab_XS arg2 harg2 x0 10 (by decide) ![0, 1280, 0] rfl inb_S1x5120x256_S1x128x256_0_1280_0) ?_
      refine Laid.cons _ _ _ (rfl) (slab_XS arg2 harg2 x0 9 (by decide) ![0, 1152, 0] rfl inb_S1x5120x256_S1x128x256_0_1152_0) ?_
      refine Laid.cons _ _ _ (rfl) (slab_XS arg2 harg2 x0 8 (by decide) ![0, 1024, 0] rfl inb_S1x5120x256_S1x128x256_0_1024_0) ?_
      refine Laid.cons _ _ _ (rfl) (slab_XS arg2 harg2 x0 7 (by decide) ![0, 896, 0] rfl inb_S1x5120x256_S1x128x256_0_896_0) ?_
      refine Laid.cons _ _ _ (rfl) (slab_XS arg2 harg2 x0 6 (by decide) ![0, 768, 0] rfl inb_S1x5120x256_S1x128x256_0_768_0) ?_
      refine Laid.cons _ _ _ (rfl) (slab_XS arg2 harg2 x0 5 (by decide) ![0, 640, 0] rfl inb_S1x5120x256_S1x128x256_0_640_0) ?_
      refine Laid.cons _ _ _ (rfl) (slab_XS arg2 harg2 x0 4 (by decide) ![0, 512, 0] rfl inb_S1x5120x256_S1x128x256_0_512_0) ?_
      refine Laid.cons _ _ _ (rfl) (slab_XS arg2 harg2 x0 3 (by decide) ![0, 384, 0] rfl inb_S1x5120x256_S1x128x256_0_384_0) ?_
      refine Laid.cons _ _ _ (rfl) (slab_XS arg2 harg2 x0 2 (by decide) ![0, 256, 0] rfl inb_S1x5120x256_S1x128x256_0_256_0) ?_
      refine Laid.cons _ _ _ (rfl) (slab_XS arg2 harg2 x0 1 (by decide) ![0, 128, 0] rfl inb_S1x5120x256_S1x128x256_0_128_0) ?_
      refine Laid.cons _ _ _ (rfl) (slab_XS arg2 harg2 x0 0 (by decide) ![0, 0, 0] rfl inb_S1x5120x256_S1x128x256_0_0_0) ?_
      rfl
    isplitl [H5]
    · iexists _; isplitr; swap; · iexact H5
      ipureintro
      exact hf5
    isplitl [H6]
    · iexists _; isplitr; swap; · iexact H6
      ipureintro
      exact hf6
    isplitl [HS0]
    · iexists _; isplitr; swap; · iexact HS0
      ipureintro
      exact hXQ.read_eq _ _ fill_XQ
    iexists _; isplitr; swap; · iexact HS1
    ipureintro
    exact hfs1

end Cert.KernelIdeal.Gen

end
-- ==== Proof.KI.RunD.lean ====
/-
  One run of the kernel body with every buffer named: every other point: both tiles are read back.
-/
module

public import proofs.«01_k».proof.Proof.KI.RunC

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
theorem bodyRun_D (c : Dev nD) (i : grid0.Coords) (arg2 : Memref sig .tc .vmem S1x5120x256 .bf16) (harg2 : arg2.IsWhole) (arg3 : Memref sig .tc .vmem S384x5120 .bf16) (harg3 : arg3.IsWhole) (arg4 : Memref sig .tc .vmem S1x256x384 .bf16) (harg4 : arg4.IsWhole) (arg5 : Memref sig .tc .vmem S1x5120x256 .fp8e4m3) (harg5 : arg5.IsWhole) (arg6 : Memref sig .tc .vmem S1x40x256 .f32) (harg6 : arg6.IsWhole) (arg7 : Memref sig .tc .vmem S384x5120 .fp8e4m3) (harg7 : arg7.IsWhole) (arg8 : Memref sig .tc .vmem S40x384 .f32) (harg8 : arg8.IsWhole) (arg9 : Memref sig .tc .vmem S5120x256 .bf16) (harg9 : arg9.IsWhole) (arg10 : Memref sig .tc .vmem S3456x5120 .bf16) (harg10 : arg10.IsWhole) (hc0 : ¬cond0_0 i) (hc1 : ¬cond0_1 i)
    (x0 : Vec F S1x5120x256 .bf16) (x1 : Vec F S384x5120 .bf16) (d2 : Vec F S1x256x384 .bf16)
    (d3 : Vec F S1x5120x256 .fp8e4m3) (d4 : Vec F S1x40x256 .f32) (d5 : Vec F S384x5120 .fp8e4m3) (d6 : Vec F S40x384 .f32)
    (e : Vec F S5120x256 .bf16) (d : Vec F S3456x5120 .bf16) :
      ∀ (E : Set ℕ) (K : PUnit → sProp 𝕄),
        iprop(owns (c : Thread nD τ) arg2 fullShare x0
            ∗ owns (c : Thread nD τ) arg3 fullShare x1
            ∗ owns (c : Thread nD τ) arg4 fullShare d2
            ∗ owns (c : Thread nD τ) arg5 fullShare d3
            ∗ owns (c : Thread nD τ) arg6 fullShare d4
            ∗ owns (c : Thread nD τ) arg7 fullShare d5
            ∗ owns (c : Thread nD τ) arg8 fullShare d6
            ∗ owns (c : Thread nD τ) arg9 fullShare e
            ∗ owns (c : Thread nD τ) arg10 fullShare d
            ∗ (iprop(owns (c : Thread nD τ) arg2 fullShare x0
              ∗ owns (c : Thread nD τ) arg3 fullShare x1
              ∗ owns (c : Thread nD τ) arg4 fullShare (k0_pay1 (getW (i 1).val d) e)
              ∗ owns (c : Thread nD τ) arg5 fullShare d3
              ∗ owns (c : Thread nD τ) arg6 fullShare d4
              ∗ owns (c : Thread nD τ) arg7 fullShare d5
              ∗ owns (c : Thread nD τ) arg8 fullShare d6
              ∗ owns (c : Thread nD τ) arg9 fullShare e
              ∗ owns (c : Thread nD τ) arg10 fullShare d) -∗ K ⟨⟩))
          ⊢ wp frame (wpE (defs₀ (F := F)) Variants.none c none) E (cc0_fp8_group_linear i arg2 harg2 arg3 harg3 arg4 harg4 arg5 harg5 arg6 harg6 arg7 harg7 arg8 harg8 arg9 harg9 arg10 harg10) K := by
    intro E K
    simp only [cc0_fp8_group_linear_eq_skeleton]; unfold cc0_fp8_group_linear_skel
    unfold owns
    iintro ⟨⟨%f0, %hf0, H0⟩, ⟨%f1, %hf1, H1⟩, ⟨%f2, -, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1
    sl_exec (disch := first | sl_exact hc0 | sl_exact hc1)
    have hn : (i 1).val < 9 := (i 1).isLt
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      refine read_y _ _ inb_S1x256x384_S1x256x384_0_0_0 ?_ ?_
      · refine (load_getW _ _ (i 1).val hn (k0_off41 i) (k0_off41_eq i) _).trans ?_
        rw [hfs1]
      · exact (load_full arg9.view _ inb_S5120x256_S5120x256_0_0).trans hfs0
    isplitl [H3]
    · iexists _; isplitr; swap; · iexact H3
      ipureintro
      exact hf3
    isplitl [H4]
    · iexists _; isplitr; swap; · iexact H4
      ipureintro
      exact hf4
    isplitl [H5]
    · iexists _; isplitr; swap; · iexact H5
      ipureintro
      exact hf5
    isplitl [H6]
    · iexists _; isplitr; swap; · iexact H6
      ipureintro
      exact hf6
    isplitl [HS0]
    · iexists _; isplitr; swap; · iexact HS0
      ipureintro
      exact hfs0
    iexists _; isplitr; swap; · iexact HS1
    ipureintro
    exact hfs1

end Cert.KernelIdeal.Gen

end
-- ==== Proof.KI.Body.lean ====
/-
  The kernel's proof data — what each staging buffer and each scratch buffer holds, point by point — and the body's
  triple at every point of the grid, from the four runs of the body.

  The grid's 216 points go token tile by token tile (`t / 9`) and, inside one, weight tile by weight tile (`t % 9`).
  A token tile is quantised at its first point (`t % 9 = 0`), a weight tile while the first token tile is at work
  (`t < 9`); what the other points need they find in the two scratch buffers.
-/
module

public import proofs.«01_k».proof.Proof.KI.RunD

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks, by the number of the point -/

/-- Point `k` of the grid. -/
def pt (k : ℕ) : Fin cfg0.N := ⟨k % 216, lt_of_lt_of_eq (Nat.mod_lt _ (by decide)) N_0.symm⟩

theorem pt_val (t : Fin cfg0.N) : pt t.val = t :=
  Fin.ext (Nat.mod_eq_of_lt (lt_of_lt_of_eq t.isLt N_0))

/-- The token tile read at point `k`, … -/
def blkX (c : Dev nD) (k : ℕ) : Vec F S1x5120x256 .bf16 := iblk m c 0 (pt k)
/-- … and the weight tile. -/
def blkW (c : Dev nD) (k : ℕ) : Vec F S384x5120 .bf16 := iblk m c 1 (pt k)

/-- After `k` points the token scratch holds the current token tile, quantised and dequantised; … -/
def HeldX (c : Dev nD) (k : ℕ) (e : Vec F S5120x256 .bf16) : Prop := 0 < k → e = XQ (blkX m c ((k - 1) / 9 * 9))
/-- … the weight scratch the first `k` weight tiles. -/
def HeldW (c : Dev nD) (k : ℕ) (d : Vec F S3456x5120 .bf16) : Prop := ∀ n < 9, n < k → getW n d = WQ (blkW m c n)

theorem getW_putW_ne {n n' : ℕ} (hn : n < 9) (hn' : n' < 9) (h : n ≠ n') (W : Vec F S384x5120 .bf16) (d : Vec F S3456x5120 .bf16) :
    getW n (putW n' W d) = getW n d := by
  funext z
  have h0 : (z 0).val < 384 := (z 0).isLt
  have e : (384 * n + (z 0).val) % 3456 = 384 * n + (z 0).val := by omega
  unfold getW putW
  rw [if_neg]
  show ¬(384 * n' ≤ (384 * n + (z 0).val) % 3456 ∧ (384 * n + (z 0).val) % 3456 < 384 * n' + 384)
  rw [e]; omega

/-! ## The pipeline's proof data -/

/-- What the invariant says before point `k`: the two scratch buffers at their contents, and the generator register. -/
def Inv (c : Dev nD) (k : ℕ) : sProp 𝕄 :=
  iprop(iprop((∃ e, ⌜HeldX m c k e⌝ ∗ owns (c : Thread nD τ) scM0_0 fullShare e)
    ∗ (∃ d, ⌜HeldW m c k d⌝ ∗ owns (c : Thread nD τ) scM0_1 fullShare d)) ∗ (∃ r, prngReg c r))

/-- The proof data: each array as the region finds it, and what the body leaves in each staging buffer. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay1 (WQ (blkW m c (t.val % 9))) (XQ (blkX m c (t.val / 9 * 9)))
    | ⟨3, _⟩ => XC (blkX m c (t.val / 9 * 9))
    | ⟨4, _⟩ => XS (blkX m c (t.val / 9 * 9))
    | ⟨5, _⟩ => WC (blkW m c (min t.val 8))
    | ⟨6, _⟩ => WS (blkW m c (min t.val 8))
  Φ k := Inv m c k.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = k0_pay1 (WQ (blkW m c (t.val % 9))) (XQ (blkX m c (t.val / 9 * 9))) := by dsimp only [dats]
theorem after0_3 (c : Dev nD) (t : Fin cfg0.N) : (dats m 0 c).after 3 t = XC (blkX m c (t.val / 9 * 9)) := by dsimp only [dats]
theorem after0_4 (c : Dev nD) (t : Fin cfg0.N) : (dats m 0 c).after 4 t = XS (blkX m c (t.val / 9 * 9)) := by dsimp only [dats]
theorem after0_5 (c : Dev nD) (t : Fin cfg0.N) : (dats m 0 c).after 5 t = WC (blkW m c (min t.val 8)) := by dsimp only [dats]
theorem after0_6 (c : Dev nD) (t : Fin cfg0.N) : (dats m 0 c).after 6 t = WS (blkW m c (min t.val 8)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## What the carried outputs hold at the points that do not store them -/

/-- A weight window is written back after each of the points 0 to 7, and at the end. -/
theorem flush0_5 : ∀ t : Fin cfg0.N, (cfg0.win 5).flush t = true ↔ (t.val < 8 ∨ t.val = 215) :=
  (by decide +kernel : ∀ t : Fin grid0.N, win0_5.flush t = true ↔ (t.val < 8 ∨ t.val = 215))
theorem flush0_6 : ∀ t : Fin cfg0.N, (cfg0.win 6).flush t = true ↔ (t.val < 8 ∨ t.val = 215) :=
  (by decide +kernel : ∀ t : Fin grid0.N, win0_6.flush t = true ↔ (t.val < 8 ∨ t.val = 215))

theorem idle0_3 (t : Fin cfg0.N) (h : t.val % 9 ≠ 0) : cfg0.idle 3 (grid0.coords t) = true := by
  show (!(k0_cond1 (grid0.coords t) == 1#1)) = true
  have := mt (hcond0_0 t).mp h
  simpa using this
theorem live0_3 (t : Fin cfg0.N) (h : t.val % 9 = 0) : cfg0.idle 3 (grid0.coords t) = false := by
  show (!(k0_cond1 (grid0.coords t) == 1#1)) = false
  have := (hcond0_0 t).mpr h
  simpa using this
theorem idle0_5 (t : Fin cfg0.N) (h : ¬t.val < 9) : cfg0.idle 5 (grid0.coords t) = true := by
  show (!(k0_cond2 (grid0.coords t) == 1#1)) = true
  have := mt (hcond0_1 t).mp h
  simpa using this
theorem live0_5 (t : Fin cfg0.N) (h : t.val < 9) : cfg0.idle 5 (grid0.coords t) = false := by
  show (!(k0_cond2 (grid0.coords t) == 1#1)) = false
  have := (hcond0_1 t).mpr h
  simpa using this

/-- An output window at a point whose predecessor does not write it back: what the predecessor left, or found. -/
theorem before_step (c : Dev nD) (w : Fin cfg0.W) (hw : (cfg0.win w).isOut = true) (t : Fin cfg0.N) (ht : t.val ≠ 0)
    (hf : (cfg0.win w).flush ⟨t.val - 1, Nat.lt_of_le_of_lt (Nat.sub_le _ _) t.isLt⟩ = false)
    (hclip : ∀ (i : cfg0.grid.Coords) a, (cfg0.win w).clip i a = none)
    (X : (cfg0.win w).block.Idx → Elt F (cfg0.win w).elt)
    (hlive : cfg0.idle w (grid0.coords ⟨t.val - 1, Nat.lt_of_le_of_lt (Nat.sub_le _ _) t.isLt⟩) = false →
      (dats m 0 c).after w ⟨t.val - 1, Nat.lt_of_le_of_lt (Nat.sub_le _ _) t.isLt⟩ = X)
    (hidle : cfg0.idle w (grid0.coords ⟨t.val - 1, Nat.lt_of_le_of_lt (Nat.sub_le _ _) t.isLt⟩) = true →
      ∀ d, (dats m 0 c).before w ⟨t.val - 1, Nat.lt_of_le_of_lt (Nat.sub_le _ _) t.isLt⟩ d = X) (d) :
    (dats m 0 c).before w t d = X := by
  rw [(dats m 0 c).before_of_pos w t ht ((cfg0.win w).fetch_out hw t), hf, if_neg Bool.false_ne_true]
  cases hi : cfg0.idle w (grid0.coords ⟨t.val - 1, Nat.lt_of_le_of_lt (Nat.sub_le _ _) t.isLt⟩) with
  | true => unfold Dat.left; rw [hi]; exact hidle hi d
  | false =>
    unfold Dat.left; rw [hi]
    refine Eq.trans ?_ (hlive hi)
    show (dats m 0 c).kept w _ d = _
    unfold Dat.kept
    rw [Pipeline.fill_of_clip_none w _ (hclip _) d ((dats m 0 c).after w _), Window.fill_cut]

theorem before0_3 (c : Dev nD) : ∀ (k : ℕ) (t : Fin cfg0.N), t.val = k → k % 9 ≠ 0 → ∀ d,
    (dats m 0 c).before 3 t d = XC (blkX m c (k / 9 * 9)) := by
  intro k
  induction k using Nat.strong_induction_on with
  | _ k ih =>
    intro t ht h0 d
    have e : (k - 1) / 9 = k / 9 := by omega
    refine before_step m c 3 rfl t (by omega) (Bool.eq_false_iff.2 fun h => ?_) (fun _ _ => rfl) _ (fun _ => ?_) (fun hi d => ?_) d
    · have := (flush0_3 _).mp h; dsimp only at this; omega
    · rw [after0_3]; dsimp only; rw [ht, e]
    · by_cases h1 : (k - 1) % 9 = 0
      · rw [live0_3 _ (by show (t.val - 1) % 9 = 0; rw [ht]; exact h1)] at hi; exact absurd hi Bool.false_ne_true
      · rw [ih (k - 1) (by omega) _ (by show t.val - 1 = _; rw [ht]) h1 d, e]

theorem before0_4 (c : Dev nD) : ∀ (k : ℕ) (t : Fin cfg0.N), t.val = k → k % 9 ≠ 0 → ∀ d,
    (dats m 0 c).before 4 t d = XS (blkX m c (k / 9 * 9)) := by
  intro k
  induction k using Nat.strong_induction_on with
  | _ k ih =>
    intro t ht h0 d
    have e : (k - 1) / 9 = k / 9 := by omega
    refine before_step m c 4 rfl t (by omega) (Bool.eq_false_iff.2 fun h => ?_) (fun _ _ => rfl) _ (fun _ => ?_) (fun hi d => ?_) d
    · have := (flush0_4 _).mp h; dsimp only at this; omega
    · rw [after0_4]; dsimp only; rw [ht, e]
    · by_cases h1 : (k - 1) % 9 = 0
      · have hl : cfg0.idle 4 (grid0.coords ⟨t.val - 1, Nat.lt_of_le_of_lt (Nat.sub_le _ _) t.isLt⟩) = false :=
          live0_3 _ (by show (t.val - 1) % 9 = 0; rw [ht]; exact h1)
        rw [hl] at hi; exact absurd hi Bool.false_ne_true
      · rw [ih (k - 1) (by omega) _ (by show t.val - 1 = _; rw [ht]) h1 d, e]

theorem before0_5 (c : Dev nD) : ∀ (k : ℕ) (t : Fin cfg0.N), t.val = k → 9 ≤ k → ∀ d,
    (dats m 0 c).before 5 t d = WC (blkW m c 8) := by
  intro k
  induction k using Nat.strong_induction_on with
  | _ k ih =>
    intro t ht h0 d
    have hN : t.val < 216 := lt_of_lt_of_eq t.isLt (show cfg0.N = 216 from N_0)
    refine before_step m c 5 rfl t (by omega) (Bool.eq_false_iff.2 fun h => ?_) (fun _ _ => rfl) _ (fun _ => ?_) (fun hi d => ?_) d
    · have := (flush0_5 _).mp h; dsimp only at this; omega
    · rw [after0_5]; dsimp only; rw [show min (t.val - 1) 8 = 8 by omega]
    · by_cases h1 : k - 1 < 9
      · rw [live0_5 _ (by show t.val - 1 < 9; rw [ht]; exact h1)] at hi; exact absurd hi Bool.false_ne_true
      · exact ih (k - 1) (by omega) _ (by show t.val - 1 = _; rw [ht]) (by omega) d

theorem before0_6 (c : Dev nD) : ∀ (k : ℕ) (t : Fin cfg0.N), t.val = k → 9 ≤ k → ∀ d,
    (dats m 0 c).before 6 t d = WS (blkW m c 8) := by
  intro k
  induction k using Nat.strong_induction_on with
  | _ k ih =>
    intro t ht h0 d
    have hN : t.val < 216 := lt_of_lt_of_eq t.isLt (show cfg0.N = 216 from N_0)
    refine before_step m c 6 rfl t (by omega) (Bool.eq_false_iff.2 fun h => ?_) (fun _ _ => rfl) _ (fun _ => ?_) (fun hi d => ?_) d
    · have := (flush0_6 _).mp h; dsimp only at this; omega
    · rw [after0_6]; dsimp only; rw [show min (t.val - 1) 8 = 8 by omega]
    · by_cases h1 : k - 1 < 9
      · have hl : cfg0.idle 6 (grid0.coords ⟨t.val - 1, Nat.lt_of_le_of_lt (Nat.sub_le _ _) t.isLt⟩) = false :=
          live0_5 _ (by show t.val - 1 < 9; rw [ht]; exact h1)
        rw [hl] at hi; exact absurd hi Bool.false_ne_true
      · exact ih (k - 1) (by omega) _ (by show t.val - 1 = _; rw [ht]) (by omega) d

/-- A staging buffer at `after` meets the body's obligation, if at an idle point that is also what it held before. -/
theorem leaves_of (c : Dev nD) (w : Fin cfg0.W) (t : Fin cfg0.N)
    (h : cfg0.idle w (grid0.coords t) = true → ∀ d, (dats m 0 c).before w t d = (dats m 0 c).after w t) :
    owns (c : Thread nD τ) ((cfg0.win w).stage (cfg0.slots t w)) fullShare ((dats m 0 c).after w t)
      ⊢ ((dats m 0 c).leavesExact w t : sProp 𝕄) := by
  cases hi : cfg0.idle w (grid0.coords t) with
  | false => unfold Dat.leavesExact; rw [hi]
  | true =>
    cases hf : (cfg0.win w).flush t with
    | true => unfold Dat.leavesExact; rw [hi, hf]
    | false =>
      rw [(dats m 0 c).leavesExact_idle w t hi hf]
      iintro H
      iexists ((dats m 0 c).after w t)
      rw [h hi]
      iexact H

theorem leaves0_3 (c : Dev nD) (t : Fin cfg0.N) :
    owns (c : Thread nD τ) (ms0_3 t) fullShare (XC (blkX m c (t.val / 9 * 9))) ⊢ ((dats m 0 c).leavesExact 3 t : sProp 𝕄) := by
  have := leaves_of m c 3 t fun hi d => by
    by_cases h : t.val % 9 = 0
    · rw [live0_3 t h] at hi; exact absurd hi Bool.false_ne_true
    · rw [before0_3 m c _ t rfl h, after0_3]
  rwa [after0_3] at this
theorem leaves0_4 (c : Dev nD) (t : Fin cfg0.N) :
    owns (c : Thread nD τ) (ms0_4 t) fullShare (XS (blkX m c (t.val / 9 * 9))) ⊢ ((dats m 0 c).leavesExact 4 t : sProp 𝕄) := by
  have := leaves_of m c 4 t fun hi d => by
    by_cases h : t.val % 9 = 0
    · rw [show cfg0.idle 4 (grid0.coords t) = false from live0_3 t h] at hi; exact absurd hi Bool.false_ne_true
    · rw [before0_4 m c _ t rfl h, after0_4]
  rwa [after0_4] at this
theorem leaves0_5 (c : Dev nD) (t : Fin cfg0.N) :
    owns (c : Thread nD τ) (ms0_5 t) fullShare (WC (blkW m c (min t.val 8))) ⊢ ((dats m 0 c).leavesExact 5 t : sProp 𝕄) := by
  have := leaves_of m c 5 t fun hi d => by
    by_cases h : t.val < 9
    · rw [live0_5 t h] at hi; exact absurd hi Bool.false_ne_true
    · rw [before0_5 m c _ t rfl (by omega), after0_5, show min t.val 8 = 8 by omega]
  rwa [after0_5] at this
theorem leaves0_6 (c : Dev nD) (t : Fin cfg0.N) :
    owns (c : Thread nD τ) (ms0_6 t) fullShare (WS (blkW m c (min t.val 8))) ⊢ ((dats m 0 c).leavesExact 6 t : sProp 𝕄) := by
  have := leaves_of m c 6 t fun hi d => by
    by_cases h : t.val < 9
    · rw [show cfg0.idle 6 (grid0.coords t) = false from live0_5 t h] at hi; exact absurd hi Bool.false_ne_true
    · rw [before0_6 m c _ t rfl (by omega), after0_6, show min t.val 8 = 8 by omega]
  rwa [after0_6] at this

/-! ## The body obligation -/

/-- What the body is called with at point `t`, … -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- … and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- What is left to the body's end: the buffers at these contents meet the obligation. -/
theorem close_body (c : Dev nD) (t : Fin cfg0.N) (e : Vec F S5120x256 .bf16) (d : Vec F S3456x5120 .bf16)
    (y : Vec F S1x256x384 .bf16) (xc : Vec F S1x5120x256 .fp8e4m3) (xs : Vec F S1x40x256 .f32)
    (wc : Vec F S384x5120 .fp8e4m3) (ws : Vec F S40x384 .f32)
    (he : HeldX m c (t.val + 1) e) (hd : HeldW m c (t.val + 1) d)
    (hy : y = k0_pay1 (WQ (blkW m c (t.val % 9))) (XQ (blkX m c (t.val / 9 * 9))))
    (hxc : xc = XC (blkX m c (t.val / 9 * 9))) (hxs : xs = XS (blkX m c (t.val / 9 * 9)))
    (hwc : wc = WC (blkW m c (min t.val 8))) (hws : ws = WS (blkW m c (min t.val 8))) :
    iprop((∃ r, prngReg c r) ∗ (dats m 0 c).owesAt () t.castSucc
      ∗ owns (c : Thread nD τ) (ms0_0 t) fullShare (iblk m c 0 t)
      ∗ owns (c : Thread nD τ) (ms0_1 t) fullShare (iblk m c 1 t)
      ∗ owns (c : Thread nD τ) (ms0_2 t) fullShare y
      ∗ owns (c : Thread nD τ) (ms0_3 t) fullShare xc
      ∗ owns (c : Thread nD τ) (ms0_4 t) fullShare xs
      ∗ owns (c : Thread nD τ) (ms0_5 t) fullShare wc
      ∗ owns (c : Thread nD τ) (ms0_6 t) fullShare ws
      ∗ owns (c : Thread nD τ) scM0_0 fullShare e
      ∗ owns (c : Thread nD τ) scM0_1 fullShare d) ⊢ bodyPost m c t := by
  subst hy hxc hxs hwc hws
  unfold bodyPost
  rw [show (dats m 0 c).Φ t.succ = Inv m c (t.val + 1) from rfl,
    show (dats m 0 c).owesAt () t.succ = (dats m 0 c).owesAt () t.castSucc from rfl,
    show (dats m 0 c).leavesExact 0 t = owns (c : Thread nD τ) (ms0_0 t) fullShare ((dats m 0 c).after 0 t) from by
      unfold Dat.leavesExact; rw [liveAt0_0 t],
    show (dats m 0 c).leavesExact 1 t = owns (c : Thread nD τ) (ms0_1 t) fullShare ((dats m 0 c).after 1 t) from by
      unfold Dat.leavesExact; rw [liveAt0_1 t],
    show (dats m 0 c).leavesExact 2 t = owns (c : Thread nD τ) (ms0_2 t) fullShare ((dats m 0 c).after 2 t) from by
      unfold Dat.leavesExact; rw [show cfg0.idle 2 (grid0.coords t) = false from rfl],
    after0_0, after0_1, after0_2]
  unfold Inv
  iintro ⟨Hg, Ho, H0, H1, H2, H3, H4, H5, H6, HS0, HS1⟩
  isplitl [HS0 HS1 Hg]
  · isplitl [HS0 HS1]
    · isplitl [HS0]
      · iexists e; isplitr; · ipureintro; exact he
        iexact HS0
      iexists d; isplitr; · ipureintro; exact hd
      iexact HS1
    iexact Hg
  isplitl [Ho]; · iexact Ho
  isplitl [H0]; · iexact H0
  isplitl [H1]; · iexact H1
  isplitl [H2]; · iexact H2
  isplitl [H3]; · iapply (leaves0_3 m c t); iexact H3
  isplitl [H4]; · iapply (leaves0_4 m c t); iexact H4
  isplitl [H5]; · iapply (leaves0_5 m c t); iexact H5
  iapply (leaves0_6 m c t); iexact H6

/-- A grid point's second coordinate is its weight tile. -/
theorem coord1 (t : Fin cfg0.N) : (grid0.coords t 1).val = t.val % 9 := by
  have e1 : (grid0.coords t 1).val = t.val / 1 % 9 := Pipeline.Grid.coords_val t 1 (by decide) rfl
  rw [e1, Nat.div_one]

theorem heldW_put (c : Dev nD) (t : Fin cfg0.N) (h1 : t.val < 9) (d : Vec F S3456x5120 .bf16) (hd : HeldW m c t.val d)
    (n : ℕ) (hn : n = t.val) : HeldW m c (t.val + 1) (putW n (WQ (blkW m c t.val)) d) := by
  subst hn
  intro n hn hk
  by_cases e : n = t.val
  · subst e; exact getW_putW _ h1 _ _
  · rw [getW_putW_ne hn h1 e]; exact hd n hn (by omega)

theorem heldW_keep (c : Dev nD) (k : ℕ) (h : ¬k < 9) (d : Vec F S3456x5120 .bf16) (hd : HeldW m c k d) : HeldW m c (k + 1) d :=
  fun n hn _ => hd n hn (by omega)

theorem iblk0_pt (c : Dev nD) (t : Fin cfg0.N) (k : ℕ) (h : k = t.val) : iblk m c 0 t = blkX m c k := by
  subst h; unfold blkX; rw [pt_val]
theorem iblk1_pt (c : Dev nD) (t : Fin cfg0.N) (k : ℕ) (h : k = t.val) : iblk m c 1 t = blkW m c k := by
  subst h; unfold blkW; rw [pt_val]

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyAt0
  simp only [before0_0, before0_1]
  rw [show (dats m 0 c).Φ t.castSucc = Inv m c t.val from rfl]
  unfold Inv
  have hN : t.val < 216 := lt_of_lt_of_eq t.isLt (show cfg0.N = 216 from N_0)
  iintro ⟨⟨⟨⟨%e, %he, HS0⟩, ⟨%d, %hd, HS1⟩⟩, Hg⟩, Ho, ⟨%d0, H0⟩, ⟨%d1, H1⟩, ⟨%d2, H2⟩, ⟨%d3, H3⟩, ⟨%d4, H4⟩, ⟨%d5, H5⟩, ⟨%d6, H6⟩⟩
  by_cases h0 : t.val % 9 = 0
  · by_cases h1 : t.val < 9
    · iapply ((bodyRun_A c (grid0.coords t) _ _ _ _ _ _ _ _ _ _ _ _ _ _ _ _ _ _ ((hcond0_0 t).mpr h0) ((hcond0_1 t).mpr h1)
        (iblk m c 0 t) (iblk m c 1 t) _ _ _ _ _ e d) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      have ex : iblk m c 0 t = blkX m c (t.val / 9 * 9) := iblk0_pt m c t _ (by omega)
      have ew : iblk m c 1 t = blkW m c t.val := iblk1_pt m c t _ rfl
      iapply (close_body m c t (XQ (iblk m c 0 t)) (putW (grid0.coords t 1).val (WQ (iblk m c 1 t)) d) (k0_pay1 (WQ (iblk m c 1 t)) (XQ (iblk m c 0 t)))
        (XC (iblk m c 0 t)) (XS (iblk m c 0 t)) (WC (iblk m c 1 t)) (WS (iblk m c 1 t))
        (fun _ => by rw [ex, Nat.add_sub_cancel])
        (by rw [ew]; exact heldW_put m c t h1 d hd _ (by rw [coord1]; omega))
        (by rw [ex, ew, Nat.mod_eq_of_lt h1]) (by rw [ex]) (by rw [ex])
        (by rw [ew, show min t.val 8 = t.val by omega]) (by rw [ew, show min t.val 8 = t.val by omega]))
      isplitl [Hg]; · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iexact HS1
    · iapply ((bodyRun_C c (grid0.coords t) _ _ _ _ _ _ _ _ _ _ _ _ _ _ _ _ _ _ ((hcond0_0 t).mpr h0) (fun h => h1 ((hcond0_1 t).mp h))
        (iblk m c 0 t) (iblk m c 1 t) _ _ _ _ _ e d) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      have ex : iblk m c 0 t = blkX m c (t.val / 9 * 9) := iblk0_pt m c t _ (by omega)
      iapply (close_body m c t (XQ (iblk m c 0 t)) d (k0_pay1 (getW (grid0.coords t 1).val d) (XQ (iblk m c 0 t)))
        (XC (iblk m c 0 t)) (XS (iblk m c 0 t)) ((dats m 0 c).before 5 t d5) ((dats m 0 c).before 6 t d6)
        (fun _ => by rw [ex, Nat.add_sub_cancel])
        (heldW_keep m c _ h1 d hd)
        (by rw [ex, coord1, hd _ (Nat.mod_lt _ (by decide)) (by omega)]) (by rw [ex]) (by rw [ex])
        (by rw [before0_5 m c _ t rfl (by omega), show min t.val 8 = 8 by omega])
        (by rw [before0_6 m c _ t rfl (by omega), show min t.val 8 = 8 by omega]))
      isplitl [Hg]; · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iexact HS1
  · have he' : e = XQ (blkX m c (t.val / 9 * 9)) := by
      rw [he (by omega), show (t.val - 1) / 9 = t.val / 9 by omega]
    by_cases h1 : t.val < 9
    · iapply ((bodyRun_B c (grid0.coords t) _ _ _ _ _ _ _ _ _ _ _ _ _ _ _ _ _ _ (fun h => h0 ((hcond0_0 t).mp h)) ((hcond0_1 t).mpr h1)
        (iblk m c 0 t) (iblk m c 1 t) _ _ _ _ _ e d) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      have ew : iblk m c 1 t = blkW m c t.val := iblk1_pt m c t _ rfl
      iapply (close_body m c t e (putW (grid0.coords t 1).val (WQ (iblk m c 1 t)) d) (k0_pay1 (WQ (iblk m c 1 t)) e)
        ((dats m 0 c).before 3 t d3) ((dats m 0 c).before 4 t d4) (WC (iblk m c 1 t)) (WS (iblk m c 1 t))
        (fun _ => by rw [he', Nat.add_sub_cancel])
        (by rw [ew]; exact heldW_put m c t h1 d hd _ (by rw [coord1]; omega))
        (by rw [he', ew, Nat.mod_eq_of_lt h1]) (before0_3 m c _ t rfl h0 _) (before0_4 m c _ t rfl h0 _)
        (by rw [ew, show min t.val 8 = t.val by omega]) (by rw [ew, show min t.val 8 = t.val by omega]))
      isplitl [Hg]; · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iexact HS1
    · iapply ((bodyRun_D c (grid0.coords t) _ _ _ _ _ _ _ _ _ _ _ _ _ _ _ _ _ _ (fun h => h0 ((hcond0_0 t).mp h)) (fun h => h1 ((hcond0_1 t).mp h))
        (iblk m c 0 t) (iblk m c 1 t) _ _ _ _ _ e d) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      iapply (close_body m c t e d (k0_pay1 (getW (grid0.coords t 1).val d) e)
        ((dats m 0 c).before 3 t d3) ((dats m 0 c).before 4 t d4) ((dats m 0 c).before 5 t d5) ((dats m 0 c).before 6 t d6)
        (fun _ => by rw [he', Nat.add_sub_cancel])
        (heldW_keep m c _ h1 d hd)
        (by rw [he', coord1, hd _ (Nat.mod_lt _ (by decide)) (by omega)]) (before0_3 m c _ t rfl h0 _) (before0_4 m c _ t rfl h0 _)
        (by rw [before0_5 m c _ t rfl (by omega), show min t.val 8 = 8 by omega])
        (by rw [before0_6 m c _ t rfl (by omega), show min t.val 8 = 8 by omega]))
      isplitl [Hg]; · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iexact HS1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem inv_in (c : Dev nD) : (Pipeline.ΦA spec0 c : sProp 𝕄) ⊢ (dats m 0 c).Φ 0 := by
  rw [show (dats m 0 c).Φ 0 = Inv m c 0 from rfl, PhiA0_eq]
  unfold Inv
  iintro ⟨⟨⟨%e, HS0⟩, ⟨%d, HS1⟩⟩, Hg⟩
  isplitl [HS0 HS1]
  · isplitl [HS0]
    · iexists e; isplitr; · ipureintro; exact fun h => absurd h (lt_irrefl _)
      iexact HS0
    iexists d; isplitr; · ipureintro; exact fun n _ h => absurd h (Nat.not_lt_zero _)
    iexact HS1
  iexact Hg

theorem inv_out (c : Dev nD) : (dats m 0 c).Φ (Fin.last cfg0.N) ⊢ (Pipeline.ΦA spec0 c : sProp 𝕄) := by
  rw [show (dats m 0 c).Φ (Fin.last cfg0.N) = Inv m c cfg0.N from rfl, PhiA0_eq]
  unfold Inv
  iintro ⟨⟨⟨%e, -, HS0⟩, ⟨%d, -, HS1⟩⟩, Hg⟩
  isplitl [HS0 HS1]
  · isplitl [HS0]
    · iexists e; iexact HS0
    iexists d; iexact HS1
  iexact Hg

set_option backward.isDefEq.respectTransparency.types false in
set_option maxHeartbeats 800000 in
/-- The run: every array of the pipeline at what the proof data says, and every semaphore counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := inv_in m) (hout := inv_out m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame: the argument arrays end as launched, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Gen

end
-- ==== Proof.Eq.Math.lean ====
/-
  The scale of a group, twice: counted against the powers of two, as the kernel finds it, and by the logarithm, as the
  reference does. Both are the power of two just above the scaled group maximum.
-/
module

public import Idealize.ShloMosaic.PureOps.Ideal
public import Idealize.ShloMosaic.PureOps.Ideal.Laws
public import Mathlib.Analysis.SpecialFunctions.Pow.Real

@[expose] public section

noncomputable section

namespace Cert.GroupScale

open Idealize.ShloMosaic

/-- A word with exponent field `k` and no fraction bits reads as a power of two. -/
theorem ofBits_pow (b : BitVec 32) (k : ℕ) (hk : 1 ≤ k) (hk' : k ≤ 254)
    (hb : b.extractLsb' 31 1 = 0#1) (he : (b.extractLsb' 23 8).toNat = k) (hf : (b.extractLsb' 0 23).toNat = 0) :
    Ideal.ofBits .f32 b = (((2 : ℝ) ^ ((k : ℤ) - 127) : ℝ) : EReal) := by
  have h1 : k ≠ 255 := by omega
  have h2 : k ≠ 0 := by omega
  simp only [Ideal.ofBits, Ideal.ieee, he, hf, hb]
  norm_num [h1, h2]
  rw [← EReal.coe_mul, show (8388608 : ℝ) = (2 : ℝ) ^ (23 : ℤ) by norm_num, ← zpow_add₀ (by norm_num)]
  congr 2
  ring

/-- The fields of the word `k <<< 23`, for `k` an exponent. -/
theorem word_fields (k : Fin 256) : ((BitVec.ofNat 32 k.val <<< (23#32)).extractLsb' 31 1 = 0#1)
    ∧ ((BitVec.ofNat 32 k.val <<< (23#32)).extractLsb' 23 8).toNat = k.val
    ∧ ((BitVec.ofNat 32 k.val <<< (23#32)).extractLsb' 0 23).toNat = 0 := by
  revert k; decide +kernel

/-- The word `k <<< 23` reads as `2 ^ (k - 127)`. -/
theorem ofBits_word (k : ℕ) (hk : 1 ≤ k) (hk' : k ≤ 254) :
    Ideal.ofBits .f32 (BitVec.ofNat 32 k <<< (23#32)) = (((2 : ℝ) ^ ((k : ℤ) - 127) : ℝ) : EReal) := by
  obtain ⟨h1, h2, h3⟩ := word_fields ⟨k, by omega⟩
  exact ofBits_pow _ k hk hk' h1 h2 h3

/-- The word `255 <<< 23` reads as plus infinity. -/
theorem ofBits_top : Ideal.ofBits .f32 (BitVec.ofNat 32 255 <<< (23#32)) = ⊤ := by
  obtain ⟨h1, h2, h3⟩ := word_fields ⟨255, by omega⟩
  simp only [Ideal.ofBits, Ideal.ieee, h1, h2, h3]
  norm_num

/-- The `k`-th power of two the kernel compares with: the word `(k + 1) <<< 23`. -/
def pw (k : Fin 255) : EReal := Ideal.ofBits .f32 (BitVec.ofNat 32 (k.val + 1) <<< (23#32))

/-- How many of the 255 powers `x` reaches. -/
def cnt (x : EReal) : ℕ := (Finset.univ.filter fun k : Fin 255 => pw k ≤ x).card

/-- The exponent field the kernel takes: the count, with 126 in place of 0 and of 255. -/
def field (x : EReal) : BitVec 32 := if cnt x = 0 ∨ cnt x = 255 then 126#32 else BitVec.ofNat 32 (cnt x)

/-- The kernel's scale, as a word read. -/
def kScale (x : EReal) : EReal := Ideal.ofBits .f32 ((field x + 1#32) <<< (23#32))

/-- The kernel's inverse scale, as a word read. -/
def kInv (x : EReal) : EReal := Ideal.ofBits .f32 ((253#32 - field x) <<< (23#32))

/-- The factor 1/448, as both programs hold it. -/
def factor : EReal := Ideal.ofBits .f32 0x3B124925#32

/-- The reference's exponent of the scale. -/
def rExp (a : EReal) : EReal :=
  if a = 0 then 0 else
    Ideal.liftRound Int.floor (Ideal.div (Ideal.log (a * factor)) ((Real.log 2 : ℝ) : EReal)) + 1

/-- The bounds that the precondition sets on a group maximum. -/
def Bounded (a : EReal) : Prop :=
  a = 0 ∨ (Ideal.ofBits .f32 0x04E00000#32 ≤ a ∧ a ≤ Ideal.ofBits .f32 0x7F7F0000#32)

theorem factor_eq : factor = ((9586981 / 4294967296 : ℝ) : EReal) := by
  simp [factor, Ideal.ofBits, Ideal.ieee, -EReal.coe_mul]; norm_num

theorem lo_eq : Ideal.ofBits .f32 0x04E00000#32 = (((7 : ℝ) * 2 ^ (-120 : ℤ) : ℝ) : EReal) := by
  have e : (BitVec.extractLsb' 23 8 0x04E00000#32).toNat = 9 := by decide
  have f : (BitVec.extractLsb' 0 23 0x04E00000#32).toNat = 6291456 := by decide
  have g : (BitVec.extractLsb' 31 1 0x04E00000#32 == 1#1) = false := by decide
  simp only [Ideal.ofBits, Ideal.ieee, e, f, g]
  rw [if_neg (by norm_num), if_neg (by norm_num)]
  congr 1
  norm_num

theorem hi_eq : Ideal.ofBits .f32 0x7F7F0000#32 = (((255 : ℝ) * 2 ^ (120 : ℤ) : ℝ) : EReal) := by
  simp [Ideal.ofBits, Ideal.ieee, -EReal.coe_mul]; norm_num

theorem pw_le_iff (k : Fin 255) (x : ℝ) (n : ℤ) (hn : n ≤ 126) (h1 : (2 : ℝ) ^ n ≤ x) (h2 : x < (2 : ℝ) ^ (n + 1)) :
    pw k ≤ (x : EReal) ↔ (k.val : ℤ) ≤ n + 126 := by
  rcases Nat.lt_or_ge k.val 254 with hk | hk
  · rw [pw, ofBits_word (k.val + 1) (by omega) (by omega), EReal.coe_le_coe_iff]
    push_cast
    constructor
    · intro h
      have := (zpow_lt_zpow_iff_right₀ (by norm_num : (1 : ℝ) < 2)).1 (lt_of_le_of_lt h h2)
      omega
    · intro h
      exact le_trans ((zpow_le_zpow_iff_right₀ (by norm_num : (1 : ℝ) < 2)).2 (by omega)) h1
  · have hk' : k.val = 254 := by omega
    rw [pw, hk', ofBits_top]
    constructor
    · intro h; simp at h
    · intro h; omega

/-- The count is the exponent field of the power of two below. -/
theorem cnt_eq (x : ℝ) (n : ℤ) (hn : n ≤ 126) (hn' : -126 ≤ n) (h1 : (2 : ℝ) ^ n ≤ x) (h2 : x < (2 : ℝ) ^ (n + 1)) :
    cnt (x : EReal) = (n + 127).toNat := by
  have : (Finset.univ.filter fun k : Fin 255 => pw k ≤ (x : EReal))
      = Finset.univ.filter fun k : Fin 255 => k.val < (n + 127).toNat := by
    ext k
    simp only [Finset.mem_filter, Finset.mem_univ, true_and]
    rw [pw_le_iff k x n hn h1 h2]
    omega
  rw [cnt, this, Fin.card_filter_val_lt]
  omega

theorem cnt_zero : cnt 0 = 0 := by
  rw [cnt, Finset.card_eq_zero, Finset.filter_eq_empty_iff]
  intro k _ h
  rcases Nat.lt_or_ge k.val 254 with hk | hk
  · rw [pw, ofBits_word (k.val + 1) (by omega) (by omega)] at h
    have h' : ((2 : ℝ) ^ (((k.val + 1 : ℕ) : ℤ) - 127) : ℝ) ≤ 0 := by exact_mod_cast h
    exact absurd h' (not_le.2 (by positivity))
  · have hk' : k.val = 254 := by omega
    rw [pw, hk', ofBits_top] at h
    simp at h

/-- A real group maximum within the bounds, scaled, lies between two powers of two whose exponents are those of normal numbers. -/
theorem exists_exponent (a : ℝ) (h1 : (7 : ℝ) * 2 ^ (-120 : ℤ) ≤ a) (h2 : a ≤ (255 : ℝ) * 2 ^ (120 : ℤ)) :
    ∃ n : ℤ, -126 ≤ n ∧ n ≤ 124 ∧ (2 : ℝ) ^ n ≤ a * (9586981 / 4294967296) ∧ a * (9586981 / 4294967296) < (2 : ℝ) ^ (n + 1) := by
  have hx : 0 < a * (9586981 / 4294967296) := by
    have : (0 : ℝ) < 7 * 2 ^ (-120 : ℤ) := by positivity
    nlinarith
  obtain ⟨n, p1, p2⟩ := exists_mem_Ico_zpow hx (by norm_num : (1 : ℝ) < 2)
  refine ⟨n, ?_, ?_, p1, p2⟩
  · have : (2 : ℝ) ^ (-126 : ℤ) < 2 ^ (n + 1) := by
      have : (2 : ℝ) ^ (-126 : ℤ) ≤ 7 * 2 ^ (-120 : ℤ) * (9586981 / 4294967296) := by norm_num
      exact lt_of_le_of_lt (this.trans (mul_le_mul_of_nonneg_right h1 (by norm_num))) p2
    have := (zpow_lt_zpow_iff_right₀ (by norm_num : (1 : ℝ) < 2)).1 this
    omega
  · have : (2 : ℝ) ^ n < 2 ^ (125 : ℤ) := by
      have : (255 : ℝ) * 2 ^ (120 : ℤ) * (9586981 / 4294967296) < (2 : ℝ) ^ (125 : ℤ) := by norm_num
      nlinarith
    have := (zpow_lt_zpow_iff_right₀ (by norm_num : (1 : ℝ) < 2)).1 this
    omega

theorem floor_div_log (x : ℝ) (n : ℤ) (h1 : (2 : ℝ) ^ n ≤ x) (h2 : x < (2 : ℝ) ^ (n + 1)) :
    ⌊Real.log x * (Real.log 2)⁻¹⌋ = n := by
  have hx : 0 < x := lt_of_lt_of_le (by positivity) h1
  have hl : 0 < Real.log 2 := Real.log_pos (by norm_num)
  rw [Int.floor_eq_iff, ← div_eq_mul_inv, le_div_iff₀ hl, div_lt_iff₀ hl]
  have e1 : Real.log ((2 : ℝ) ^ n) = n * Real.log 2 := Real.log_zpow 2 n
  have e2 : Real.log ((2 : ℝ) ^ (n + 1)) = ((n + 1 : ℤ) : ℝ) * Real.log 2 := Real.log_zpow 2 (n + 1)
  push_cast at e2
  exact ⟨e1 ▸ Real.log_le_log (by positivity) h1, e2 ▸ Real.log_lt_log hx h2⟩

/-- For a group maximum within the bounds the kernel's scale is the reference's, and so is its inverse. -/
theorem scale_eq (a : EReal) (h : Bounded a) :
    kScale (a * factor) = Ideal.exp2 (rExp a) ∧ kInv (a * factor) = Ideal.exp2 (0 - rExp a) := by
  rcases h with rfl | ⟨hlo, hhi⟩
  · have hf : field 0 = 126#32 := by simp [field, cnt_zero]
    have e1 : Ideal.ofBits .f32 ((126#32 + 1#32) <<< (23#32)) = 1 := by
      rw [show (126#32 + 1#32) = BitVec.ofNat 32 127 by rfl, ofBits_word 127 (by omega) (by omega)]; norm_num
    have e2 : Ideal.ofBits .f32 ((253#32 - 126#32) <<< (23#32)) = 1 := by
      rw [show (253#32 - 126#32) = BitVec.ofNat 32 127 by rfl, ofBits_word 127 (by omega) (by omega)]; norm_num
    have e3 : Ideal.exp2 0 = 1 := by
      show ((Real.rpow 2 0 : ℝ) : EReal) = 1
      rw [show Real.rpow 2 0 = 1 from Real.rpow_zero 2]; rfl
    simp only [zero_mul, kScale, kInv, hf, e1, e2, rExp, if_true, sub_zero, e3, and_self]
  · rw [lo_eq] at hlo
    rw [hi_eq] at hhi
    induction a with
    | bot => exact absurd hlo (not_le.2 (EReal.bot_lt_coe _))
    | top => exact absurd hhi (not_le.2 (EReal.coe_lt_top _))
    | coe a =>
      rw [EReal.coe_le_coe_iff] at hlo hhi
      obtain ⟨n, hn1, hn2, p1, p2⟩ := exists_exponent a hlo hhi
      have ha : 0 < a := lt_of_lt_of_le (by positivity) hlo
      have hne : (a : EReal) ≠ 0 := by exact_mod_cast ha.ne'
      have hx : 0 < a * (9586981 / 4294967296) := by positivity
      have hl : (Real.log 2) ≠ 0 := (Real.log_pos (by norm_num)).ne'
      obtain ⟨k, hk⟩ : ∃ k : ℕ, n = (k : ℤ) - 127 := ⟨(n + 127).toNat, by omega⟩
      have hc : cnt (((a * (9586981 / 4294967296) : ℝ)) : EReal) = k := by
        rw [cnt_eq _ n (by omega) hn1 p1 p2]; omega
      have hf : field (((a * (9586981 / 4294967296) : ℝ)) : EReal) = BitVec.ofNat 32 k := by
        rw [field, hc, if_neg (by omega)]
      have hr : rExp (a : EReal) = (((n + 1 : ℤ) : ℝ) : EReal) := by
        rw [rExp, if_neg hne, factor_eq, ← EReal.coe_mul]
        have e : Ideal.log ((a * (9586981 / 4294967296) : ℝ) : EReal) = ((Real.log (a * (9586981 / 4294967296)) : ℝ) : EReal) := by
          show (if _ then _ else _) = _
          rw [if_neg (not_le.2 hx)]
        have hl' : ((Real.log 2 : ℝ) : EReal) ≠ 0 := by exact_mod_cast hl
        rw [e, Ideal.div, if_neg hl', ← EReal.coe_inv, ← EReal.coe_mul]
        show ((⌊_⌋ : ℝ) : EReal) + 1 = _
        rw [floor_div_log _ n p1 p2]
        push_cast; rfl
      rw [factor_eq, ← EReal.coe_mul, hr, kScale, kInv, hf]
      constructor
      · rw [show BitVec.ofNat 32 k + 1#32 = BitVec.ofNat 32 (k + 1) by simp [BitVec.ofNat_add], ofBits_word (k + 1) (by omega) (by omega)]
        show _ = ((Real.rpow 2 _ : ℝ) : EReal)
        congr 1
        rw [show Real.rpow 2 ((n + 1 : ℤ) : ℝ) = (2 : ℝ) ^ (n + 1) from Real.rpow_intCast 2 (n + 1)]
        congr 1; push_cast; omega
      · rw [show 253#32 - BitVec.ofNat 32 k = BitVec.ofNat 32 (253 - k) by
            apply BitVec.eq_of_toNat_eq; simp only [BitVec.toNat_sub, BitVec.toNat_ofNat]; omega,
          ofBits_word (253 - k) (by omega) (by omega)]
        rw [zero_sub, ← EReal.coe_neg]
        show _ = ((Real.rpow 2 _ : ℝ) : EReal)
        congr 1
        rw [show Real.rpow 2 (-((n + 1 : ℤ) : ℝ)) = (2 : ℝ) ^ (-(n + 1)) by
          rw [← Int.cast_neg]; exact Real.rpow_intCast 2 (-(n + 1))]
        congr 1; omega

end Cert.GroupScale

end
-- ==== Proof.Eq.Spec.lean ====
/-
  The five arrays in closed form over the extended reals, and the kernel's count of powers of two as a vector operation.
-/
module

public import proofs.«01_k».proof.Proof.Eq.Math
public import Idealize.ShloMosaic.Lib.ValueIdx
public import Idealize.ShloMosaic.Lib.IndicatorCount
public import Idealize.ShloMosaic.Lib.Pipeline.Value

@[expose] public section

noncomputable section

namespace Cert.GroupScale

open Idealize.ShloMosaic Idealize.ShloMosaic.ValueIdx

/-- The largest magnitude in a group of 128. -/
def groupMax (v : Fin 128 → EReal) : EReal :=
  (Finset.univ : Finset (Fin 128)).fold max (Ideal.ofBits .f32 0xFF800000#32) fun r => max (v r) (-(v r))

/-- A value over its group's scale, clipped to ±448. -/
def code (v inv : EReal) : EReal :=
  min (Ideal.ofBits .f32 0x43E00000#32) (max (Ideal.ofBits .f32 0xC3E00000#32) (v * inv))

/-- The scale of a group, from its largest magnitude. -/
def scale (a : EReal) : EReal := Ideal.exp2 (rExp a)

/-- The inverse of the scale. -/
def inverse (a : EReal) : EReal := Ideal.exp2 (0 - rExp a)

/-- Row `r` of group `g`, among the 5120 rows. -/
abbrev row (g : Fin 40) (r : Fin 128) : Fin 5120 := ⟨128 * g.val + r.val, by have := g.isLt; have := r.isLt; omega⟩

/-- The group of a row. -/
abbrev grp (k : Fin 5120) : Fin 40 := ⟨k.val / 128, by have := k.isLt; omega⟩

section Global

variable (x : (⟨3, ![5120, 3, 2048]⟩ : Shape).Idx → EReal) (w : (⟨2, ![3456, 5120]⟩ : Shape).Idx → EReal)

/-- The largest magnitude of a group of tokens' features. -/
def xMax (g : Fin 40) (b : Fin 3) (t : Fin 2048) : EReal := groupMax fun r => x (ix3 (row g r) b t)
/-- The largest magnitude of a group of weights. -/
def wMax (o : Fin 3456) (g : Fin 40) : EReal := groupMax fun r => w (ix2 o (row g r))

/-- The token codes. -/
def xCode (k : Fin 5120) (b : Fin 3) (t : Fin 2048) : EReal := code (x (ix3 k b t)) (inverse (xMax x (grp k) b t))
/-- The weight codes. -/
def wCode (o : Fin 3456) (k : Fin 5120) : EReal := code (w (ix2 o k)) (inverse (wMax w o (grp k)))

/-- The product of the dequantised operands. -/
def prod (b : Fin 3) (t : Fin 2048) (o : Fin 3456) : EReal :=
  ∑ k : Fin 5120, (wCode w o k * scale (wMax w o (grp k))) * (xCode x k b t * scale (xMax x (grp k) b t))

end Global

theorem ofBits_bot_f32 : Ideal.ofBits .f32 0xFF800000#32 = ⊥ := by simp [Ideal.ofBits, Ideal.ieee]
theorem ofBits_bot_bf16 : Ideal.ofBits .bf16 0xFF80#16 = ⊥ := by simp [Ideal.ofBits, Ideal.ieee]

theorem kScale_eq {a : EReal} (h : Bounded a) : kScale (a * factor) = scale a := (scale_eq a h).1
theorem kInv_eq {a : EReal} (h : Bounded a) : kInv (a * factor) = inverse a := (scale_eq a h).2

theorem shli_23 (b : BitVec 32) : IntOp.shli .vector b 23#32 = b <<< (23#32) := by simp [IntOp.shli]

section Count

variable {n : ℕ} (x : FVec Ideal ⟨2, ![1, n]⟩ .f32) (hi : (⟨2, ![255, n]⟩ : Shape).Iotas .tc 32 [0])
  (hb : (⟨2, ![1, n]⟩ : Shape).Broadcasts ⟨2, ![255, n]⟩) (h132 : 1 < 32)
  (hr : (⟨2, ![255, n]⟩ : Shape).Reduces [0] ⟨1, ![n]⟩) (hz : (0#32 : BitVec 32) = IKind.add.neutral)

/-- How many of the words `1 <<< 23, …, 255 <<< 23`, read as numbers, each lane of `x` reaches. -/
def countVec : IVec ⟨1, ![n]⟩ 32 :=
  multiReductionI .add [0] ⟨1, ![n]⟩
    (extui 32 (cmpf .oge (broadcastTo ⟨2, ![255, n]⟩ x hb)
      (bitcastToFloat .f32 (shli (addi (iota .tc ⟨2, ![255, n]⟩ 32 [0] hi) (broadcast ⟨2, ![255, n]⟩ 1#32))
        (broadcast ⟨2, ![255, n]⟩ 23#32)))) h132) 0#32 hr hz

omit x hb h132 hr hz in
theorem power_apply (k : Fin 255) (t : Fin n) :
    (bitcastToFloat .f32 (shli (addi (iota .tc ⟨2, ![255, n]⟩ 32 [0] hi) (broadcast ⟨2, ![255, n]⟩ 1#32))
      (broadcast ⟨2, ![255, n]⟩ 23#32)) : FVec Ideal ⟨2, ![255, n]⟩ .f32) (ix2 k t) = pw k := by
  show Ideal.ofBits .f32 (IntOp.shli .vector (IntOp.addi (iota .tc ⟨2, ![255, n]⟩ 32 [0] hi (ix2 k t)) 1#32) 23#32) = _
  have e : iota .tc ⟨2, ![255, n]⟩ 32 [0] hi (ix2 k t) = BitVec.ofNat 32 k.val := by
    simp [iota]; rfl
  rw [e, shli_23, IntOp.addi, pw, BitVec.ofNat_add]

theorem countVec_apply (t : Fin n) : countVec x hi hb h132 hr hz (ix1 t) = BitVec.ofNat 32 (cnt (x (ix2 0 t))) := by
  classical
  rw [countVec, multiReductionI_eq_fold]
  refine (hr.fold_filter_drop_single IKind.add.op _ _ (ix1 t)).trans ?_
  have e : ∀ k : Fin 255, hr.lift (ix1 t) k = ix2 k t := fun k => by
    funext a; match a with | ⟨0, _⟩ => rfl | ⟨1, _⟩ => rfl
  have hx : ∀ k : Fin 255, broadcastTo ⟨2, ![255, n]⟩ x hb (ix2 k t) = x (ix2 0 t) := fun k =>
    broadcastTo_apply x hb _ _ (fun a => by
      match a with
      | ⟨0, _⟩ => rfl
      | ⟨1, _⟩ =>
        show t.val = if n = 1 then 0 else t.val
        split
        · have := t.isLt; omega
        · rfl)
  have hk : ∀ k : Fin 255, extui 32 (cmpf .oge (broadcastTo ⟨2, ![255, n]⟩ x hb)
      (bitcastToFloat .f32 (shli (addi (iota .tc ⟨2, ![255, n]⟩ 32 [0] hi) (broadcast ⟨2, ![255, n]⟩ 1#32))
        (broadcast ⟨2, ![255, n]⟩ 23#32)))) h132 (ix2 k t) = (Ideal.cmp .oge (x (ix2 0 t)) (pw k)).setWidth 32 := fun k => by
    show (Ideal.cmp .oge (broadcastTo ⟨2, ![255, n]⟩ x hb (ix2 k t)) _).setWidth 32 = _
    rw [hx]
    exact congrArg (fun b : EReal => (Ideal.cmp .oge (x (ix2 0 t)) b).setWidth 32) (power_apply hi k t)
  have hf : _ ∘ hr.lift (ix1 t) = fun k : Fin 255 => (Ideal.cmp .oge (x (ix2 0 t)) (pw k)).setWidth 32 :=
    funext fun k => (congrArg _ (e k)).trans (hk k)
  refine (congrArg (Finset.fold IKind.add.op 0#32 · Finset.univ) hf).trans ?_
  refine (IndicatorCount.fold_addi_setWidth_eq_card (w := 32) (fun k : Fin 255 => Ideal.cmp .oge (x (ix2 0 t)) (pw k)) Finset.univ).trans ?_
  rw [cnt]
  congr 2
  refine Finset.filter_congr fun k _ => ?_
  show BitVec.ofBool (decide (pw k ≤ x (ix2 0 t))) = 1#1 ↔ _
  by_cases h : pw k ≤ x (ix2 0 t) <;> simp [h]

end Count

/-- The exponent field of each lane: its count, with 126 in place of 0 and of 255. -/
theorem field_apply {n : ℕ} (c : IVec ⟨1, ![n]⟩ 32) (hs : (⟨1, ![n]⟩ : Shape).ShapeCasts ⟨2, ![1, n]⟩) (t : Fin n) (x : EReal)
    (hc : c (ix1 t) = BitVec.ofNat 32 (cnt x)) :
    select (ori (cmpi .eq (shapeCast ⟨2, ![1, n]⟩ c hs) (broadcast ⟨2, ![1, n]⟩ 0#32))
        (cmpi .eq (shapeCast ⟨2, ![1, n]⟩ c hs) (broadcast ⟨2, ![1, n]⟩ 255#32)))
      (broadcast ⟨2, ![1, n]⟩ 126#32) (shapeCast ⟨2, ![1, n]⟩ c hs) (ix2 0 t) = field x := by
  have e : shapeCast ⟨2, ![1, n]⟩ c hs (ix2 0 t) = BitVec.ofNat 32 (cnt x) := by
    rw [← hc]
    exact (shapeCast_addUnit_apply ![n] _ hs (ix2 0 t)).trans (congrArg _ (funext fun a => by match a with | ⟨0, _⟩ => rfl))
  show Scalar.select (IntOp.ori (IntOp.cmpi .eq (shapeCast _ _ hs (ix2 0 t)) 0#32) (IntOp.cmpi .eq (shapeCast _ _ hs (ix2 0 t)) 255#32)) 126#32 (shapeCast _ _ hs (ix2 0 t)) = _
  rw [e, field]
  have hc255 : cnt x ≤ 255 := (Finset.card_le_univ _).trans (by simp)
  clear hc e
  generalize cnt x = c at hc255
  have h0 : (BitVec.ofNat 32 c == 0#32) = decide (c = 0) := by
    rw [Bool.eq_iff_iff]; simp only [beq_iff_eq, decide_eq_true_eq, ← BitVec.toNat_inj, BitVec.toNat_ofNat]; omega
  have h1 : (BitVec.ofNat 32 c == 255#32) = decide (c = 255) := by
    rw [Bool.eq_iff_iff]; simp only [beq_iff_eq, decide_eq_true_eq, ← BitVec.toNat_inj, BitVec.toNat_ofNat]; omega
  simp only [IntOp.cmpi, IntOp.ori, Scalar.select, h0, h1]
  by_cases a : c = 0 <;> by_cases b : c = 255 <;> simp [a, b]

end Cert.GroupScale

end
-- ==== Proof.Eq.Tile.lean ====
/-
  What the kernel makes of one group, read lane by lane over the extended reals: for a group maximum within the bounds,
  its scale, its codes and the numbers the codes stand for are those of the closed form.
-/
module

public import proofs.«01_k».proof.Proof.Eq.Spec
public import proofs.«01_k».proof.Proof.KI.Blocks

@[expose] public section

noncomputable section

namespace Cert.KernelIdeal.Gen

open Idealize.ShloMosaic Idealize.ShloMosaic.ValueIdx Cert.GroupScale

/-! ## Layout -/

/-- A row spread over `m` rows reads the same in each. -/
theorem rows_apply {α : Type} {m n : ℕ} (x : (⟨2, ![1, n]⟩ : Shape).Idx → α) (hb : (⟨2, ![1, n]⟩ : Shape).Broadcasts ⟨2, ![m, n]⟩)
    (k : Fin m) (t : Fin n) : broadcastTo ⟨2, ![m, n]⟩ x hb (ix2 k t) = x (ix2 0 t) :=
  broadcastTo_apply x hb _ _ (fun a => by
    match a with
    | ⟨0, _⟩ => rfl
    | ⟨1, _⟩ =>
      show t.val = if n = 1 then 0 else t.val
      split
      · have := t.isLt; omega
      · rfl)

/-- Transposing a matrix swaps its coordinates. -/
theorem swap_apply {α : Type} {m n : ℕ} (x : (⟨2, ![m, n]⟩ : Shape).Idx → α)
    (h : (⟨2, ![m, n]⟩ : Shape).Transposes [1, 0] ⟨2, ![n, m]⟩) (i : Fin n) (j : Fin m) :
    transpose ⟨2, ![n, m]⟩ [1, 0] x h (ix2 i j) = x (ix2 j i) :=
  transpose_apply [1, 0] x h _ _ (fun b => by match b with | ⟨0, _⟩ => rfl | ⟨1, _⟩ => rfl)

/-- Dropping a leading axis of one. -/
theorem drop_apply {α : Type} {m n : ℕ} (x : (⟨3, ![1, m, n]⟩ : Shape).Idx → α)
    (h : (⟨3, ![1, m, n]⟩ : Shape).ShapeCasts ⟨2, ![m, n]⟩) (i : Fin m) (j : Fin n) :
    shapeCast ⟨2, ![m, n]⟩ x h (ix2 i j) = x (ix3 0 i j) :=
  (shapeCast_dropUnit_apply ![m, n] x h (ix2 i j)).trans
    (congrArg x (funext fun a => by match a with | ⟨0, _⟩ => rfl | ⟨1, _⟩ => rfl | ⟨2, _⟩ => rfl))

/-- Adding a leading axis of one. -/
theorem add_apply {α : Type} {m n : ℕ} (x : (⟨2, ![m, n]⟩ : Shape).Idx → α)
    (h : (⟨2, ![m, n]⟩ : Shape).ShapeCasts ⟨3, ![1, m, n]⟩) (z : Fin 1) (i : Fin m) (j : Fin n) :
    shapeCast ⟨3, ![1, m, n]⟩ x h (ix3 z i j) = x (ix2 i j) :=
  (shapeCast_addUnit_apply ![m, n] x h (ix3 z i j)).trans
    (congrArg x (funext fun a => by match a with | ⟨0, _⟩ => rfl | ⟨1, _⟩ => rfl))

/-- A vector as a matrix of one row. -/
theorem lane_apply {α : Type} {n : ℕ} (x : (⟨1, ![n]⟩ : Shape).Idx → α)
    (h : (⟨1, ![n]⟩ : Shape).ShapeCasts ⟨2, ![1, n]⟩) (t : Fin n) :
    shapeCast ⟨2, ![1, n]⟩ x h (ix2 0 t) = x (ix1 t) :=
  (shapeCast_addUnit_apply ![n] x h (ix2 0 t)).trans (congrArg x (funext fun a => by match a with | ⟨0, _⟩ => rfl))

/-- A cast to the same shape changes nothing. -/
theorem same_apply {α : Type} {s : Shape} (x : s.Idx → α) (h : s.ShapeCasts s) (j : s.Idx) : shapeCast s x h j = x j :=
  shapeCast_apply x h j j rfl

/-- The maximum magnitude down the columns of a 128-row matrix. -/
theorem colMax_apply {n : ℕ} (x : FVec Ideal ⟨2, ![128, n]⟩ .bf16) (h : (⟨2, ![128, n]⟩ : Shape).Reduces [0] ⟨1, ![n]⟩)
    (hφ : FKind.Formats .bf16) (hacc : (0xFF80#16 : BitVec 16) = FKind.maximumf.neutral .bf16 hφ) (t : Fin n) :
    multiReduction .maximumf [0] ⟨1, ![n]⟩ (absf x) 0xFF80#16 h hφ hacc (ix1 t) = groupMax fun r => x (ix2 r t) := by
  have e : ∀ k : Fin 128, h.lift (ix1 t) k = ix2 k t := fun k => by
    funext a; match a with | ⟨0, _⟩ => rfl | ⟨1, _⟩ => rfl
  have hf : absf x ∘ h.lift (ix1 t) = fun k : Fin 128 => (max (x (ix2 k t)) (-(x (ix2 k t))) : EReal) :=
    funext fun k => congrArg (absf x) (e k)
  refine (Ideal.multiReduction_maximumf_single (absf x) 0xFF80#16 h hφ hacc (ix1 t)).trans ?_
  refine (congrArg (Finset.fold max (FloatOps.ofBits .bf16 0xFF80#16 : Ideal .bf16) · Finset.univ) hf).trans ?_
  rw [groupMax, ofBits_bot_f32]
  exact congrArg (fun b : EReal => Finset.fold max b _ _) ofBits_bot_bf16

/-! ## A token group -/

section X

variable (v : Vec Ideal S1x128x256 .bf16)

/-- The largest magnitude of lane `t`. -/
def gX (t : Fin 256) : EReal := groupMax fun r => v (ix3 0 r t)

theorem k0_pay2_at (r : Fin 128) (t : Fin 256) : k0_pay2 v (ix2 r t) = v (ix3 0 r t) := drop_apply _ _ r t

theorem k0_pay3_at (t : Fin 256) : k0_pay3 v (ix2 0 t) = field (gX v t * factor) := by
  unfold k0_pay3
  dsimp only
  refine field_apply (n := 256) _ _ t _ ((countVec_apply (n := 256) _ _ _ _ _ _ t).trans ?_)
  refine congrArg (fun b : EReal => BitVec.ofNat 32 (cnt b)) ((mulf_apply _ _ _).trans ?_)
  refine congrArg (fun b : EReal => b * factor) ((extf_apply (φ := .bf16) (ψ := .f32) _ bitsLt_bf16_f32 _).trans ?_)
  refine (lane_apply (n := 256) _ _ t).trans ((colMax_apply (n := 256) (k0_pay2 v) _ _ _ t).trans ?_)
  simp only [k0_pay2_at]
  rfl

variable {v} {t : Fin 256} (hb : Bounded (gX v t))
include hb

theorem k0_pay4_at : k0_pay4 v (ix2 0 t) = scale (gX v t) := by
  refine Eq.trans ?_ (kScale_eq hb)
  show Ideal.ofBits .f32 (IntOp.shli .vector (k0_pay3 v (ix2 0 t) + 1#32) 23#32) = _
  rw [k0_pay3_at, shli_23, kScale]

theorem k0_pay5_at (r : Fin 128) : k0_pay5 v (ix2 r t)
    = max (Ideal.ofBits .f32 0xC3E00000#32) (v (ix3 0 r t) * inverse (gX v t)) := by
  unfold k0_pay5
  refine congrArg (max (Ideal.ofBits .f32 0xC3E00000#32)) (congrArg₂ (· * ·) (k0_pay2_at v r t) ?_)
  refine (rows_apply (m := 128) (n := 256) _ _ r t).trans ?_
  refine Eq.trans ?_ (kInv_eq hb)
  show Ideal.ofBits .f32 (IntOp.shli .vector (253#32 - k0_pay3 v (ix2 0 t)) 23#32) = _
  rw [k0_pay3_at, shli_23, kInv]

theorem k0_pay7_at (r : Fin 128) : k0_pay7 (k0_pay5 v) k0_pay6 (ix2 r t) = code (v (ix3 0 r t)) (inverse (gX v t)) := by
  unfold k0_pay7 k0_pay6
  dsimp only
  exact congrArg (min (Ideal.ofBits .f32 0x43E00000#32)) (k0_pay5_at hb r)

theorem sX_at : sX v (ix3 0 0 t) = scale (gX v t) := by
  unfold sX k0_pay8
  exact (add_apply (m := 1) (n := 256) _ _ 0 0 t).trans (k0_pay4_at hb)

theorem cX_at (r : Fin 128) : cX v (ix3 0 r t) = code (v (ix3 0 r t)) (inverse (gX v t)) := by
  unfold cX k0_pay9
  exact (add_apply (m := 128) (n := 256) _ _ 0 r t).trans (k0_pay7_at hb r)

theorem dX_at (r : Fin 128) : dX v (ix2 r t) = code (v (ix3 0 r t)) (inverse (gX v t)) * scale (gX v t) := by
  unfold dX k0_pay10
  exact (same_apply _ _ _).trans (congrArg₂ (· * ·) (k0_pay7_at hb r)
    ((rows_apply (m := 128) (n := 256) _ _ r t).trans (k0_pay4_at hb)))

end X

/-! ## A weight group -/

section W

variable (v : Vec Ideal S384x128 .bf16)

/-- The largest magnitude of weight row `o`. -/
def gW (o : Fin 384) : EReal := groupMax fun r => v (ix2 o r)

theorem k0_pay346_at (o : Fin 384) : k0_pay346 v (ix2 0 o) = field (gW v o * factor) := by
  unfold k0_pay346
  dsimp only
  refine field_apply (n := 384) _ _ o _ ((countVec_apply (n := 384) _ _ _ _ _ _ o).trans ?_)
  refine congrArg (fun b : EReal => BitVec.ofNat 32 (cnt b)) ((mulf_apply _ _ _).trans ?_)
  refine congrArg (fun b : EReal => b * factor) ((extf_apply (φ := .bf16) (ψ := .f32) _ bitsLt_bf16_f32 _).trans ?_)
  refine (lane_apply (n := 384) _ _ o).trans ((colMax_apply (n := 384) _ _ _ _ o).trans ?_)
  exact congrArg groupMax (funext fun r => swap_apply (m := 384) (n := 128) v _ r o)

variable {v} {o : Fin 384} (hb : Bounded (gW v o))
include hb

theorem sW_at : sW v (ix2 0 o) = scale (gW v o) := by
  refine Eq.trans ?_ (kScale_eq hb)
  show Ideal.ofBits .f32 (IntOp.shli .vector (k0_pay346 v (ix2 0 o) + 1#32) 23#32) = _
  rw [k0_pay346_at, shli_23, kScale]

theorem k0_pay348_at (r : Fin 128) : k0_pay348 v (ix2 o r) = scale (gW v o) := by
  unfold k0_pay348
  dsimp only
  exact (swap_apply (m := 128) (n := 384) _ _ o r).trans ((rows_apply (m := 128) (n := 384) _ _ r o).trans
    ((same_apply _ _ _).trans (sW_at hb)))

theorem k0_pay349_at : k0_pay349 v (ix2 0 o) = inverse (gW v o) := by
  unfold k0_pay349
  refine (same_apply _ _ _).trans (Eq.trans ?_ (kInv_eq hb))
  show Ideal.ofBits .f32 (IntOp.shli .vector (253#32 - k0_pay346 v (ix2 0 o)) 23#32) = _
  rw [k0_pay346_at, shli_23, kInv]

theorem cW_at (r : Fin 128) : cW v (ix2 o r) = code (v (ix2 o r)) (inverse (gW v o)) := by
  unfold cW k0_pay350
  dsimp only
  exact congrArg (fun b : EReal => min (Ideal.ofBits .f32 0x43E00000#32) (max (Ideal.ofBits .f32 0xC3E00000#32) (v (ix2 o r) * b)))
    ((swap_apply (m := 128) (n := 384) _ _ o r).trans ((rows_apply (m := 128) (n := 384) _ _ r o).trans (k0_pay349_at hb)))

theorem dW_at (r : Fin 128) : dW v (ix2 o r) = code (v (ix2 o r)) (inverse (gW v o)) * scale (gW v o) := by
  unfold dW k0_pay351
  exact (same_apply _ _ _).trans (congrArg₂ (· * ·) (cW_at hb r) (k0_pay348_at hb r))

end W

/-! ## The product tile -/

theorem k0_pay1_at (W : Vec Ideal S384x5120 .bf16) (X : Vec Ideal S5120x256 .bf16) (t : Fin 256) (o : Fin 384) :
    k0_pay1 W X (ix3 0 t o) = ∑ k : Fin 5120, W (ix2 o k) * X (ix2 k t) := by
  unfold k0_pay1
  dsimp only
  refine (add_apply (m := 256) (n := 384) _ _ 0 t o).trans ((swap_apply (m := 384) (n := 256) _ _ t o).trans ?_)
  refine (Ideal.matmul_constant_zero_apply dot_S384x5120_S5120x256_S384x256_1_0_0_1_n_n none (φ₁ := .bf16) (φ₂ := .bf16) W X (ix2 o t)).trans ?_
  refine Fintype.sum_equiv (contrEquiv1 dot_S384x5120_S5120x256_S384x256_1_0_0_1_n_n 5120 rfl rfl) _ _ fun k => ?_
  refine congrArg₂ (· * ·) (congrArg W ?_) (congrArg X ?_)
  · funext a; match a with | ⟨0, _⟩ => rfl | ⟨1, _⟩ => rfl
  · funext a; match a with | ⟨0, _⟩ => rfl | ⟨1, _⟩ => rfl

end Cert.KernelIdeal.Gen

end
-- ==== Proof.KI.Tiles.lean ====
/-
  The kernel's tiles in closed form of its arguments, where every group's largest magnitude is bounded as the
  precondition says.
-/
module

public import proofs.«01_k».proof.Proof.KI.Body
public import proofs.«01_k».proof.Proof.Eq.Tile

@[expose] public section

noncomputable section

namespace Cert.KernelIdeal.Gen

open Idealize.ShloMosaic hiding ix2 ix3
open Idealize.ShloMosaic.TcCoe Idealize.ShloMosaic.ValueIdx Cert.GroupScale

/-! ## Where the blocks lie -/

/-- The batch of point `k`'s token tile, … -/
def bat (k : ℕ) : Fin 3 := ⟨k / 72 % 3, Nat.mod_lt _ (by decide)⟩
/-- … its tokens, … -/
def tok (k : ℕ) (t : Fin 256) : Fin 2048 := ⟨k / 9 % 8 * 256 + t.val, by have := t.isLt; omega⟩
/-- … and the rows of weight tile `n`. -/
def wrow (n : ℕ) (o : Fin 384) : Fin 3456 := ⟨n % 9 * 384 + o.val, by have := o.isLt; omega⟩

theorem bat_div (k : ℕ) : bat (k / 9 * 9) = bat k := Fin.ext (by show k / 9 * 9 / 72 % 3 = k / 72 % 3; omega)
theorem tok_div (k : ℕ) (t : Fin 256) : tok (k / 9 * 9) t = tok k t :=
  Fin.ext (by show k / 9 * 9 / 9 % 8 * 256 + t.val = k / 9 % 8 * 256 + t.val; omega)

theorem index0 : ∀ t : Fin cfg0.N, win0_0.index t (0 : Fin 3) = t.val / 72 % 3 ∧ win0_0.index t (1 : Fin 3) = 0
    ∧ win0_0.index t (2 : Fin 3) = t.val / 9 % 8 := (by decide +kernel : ∀ t : Fin grid0.N, _)
theorem index1 : ∀ t : Fin cfg0.N, win0_1.index t (0 : Fin 2) = min t.val 8 ∧ win0_1.index t (1 : Fin 2) = 0 :=
  (by decide +kernel : ∀ t : Fin grid0.N, _)
theorem index2 : ∀ t : Fin cfg0.N, win0_2.index t (0 : Fin 3) = t.val / 72 % 3 ∧ win0_2.index t (1 : Fin 3) = t.val / 9 % 8
    ∧ win0_2.index t (2 : Fin 3) = t.val % 9 := (by decide +kernel : ∀ t : Fin grid0.N, _)
theorem index3 : ∀ t : Fin cfg0.N, win0_3.index t (0 : Fin 3) = t.val / 72 % 3 ∧ win0_3.index t (1 : Fin 3) = 0
    ∧ win0_3.index t (2 : Fin 3) = t.val / 9 % 8 := (by decide +kernel : ∀ t : Fin grid0.N, _)
theorem index4 : ∀ t : Fin cfg0.N, win0_4.index t (0 : Fin 3) = t.val / 72 % 3 ∧ win0_4.index t (1 : Fin 3) = 0
    ∧ win0_4.index t (2 : Fin 3) = t.val / 9 % 8 := (by decide +kernel : ∀ t : Fin grid0.N, _)
theorem index5 : ∀ t : Fin cfg0.N, win0_5.index t (0 : Fin 2) = min t.val 8 ∧ win0_5.index t (1 : Fin 2) = 0 :=
  (by decide +kernel : ∀ t : Fin grid0.N, _)
theorem index6 : ∀ t : Fin cfg0.N, win0_6.index t (0 : Fin 2) = 0 ∧ win0_6.index t (1 : Fin 2) = min t.val 8 :=
  (by decide +kernel : ∀ t : Fin grid0.N, _)

theorem emb0 (t : Fin cfg0.N) (z : Fin 1) (r : Fin 5120) (l : Fin 256) :
    ((cfg0.win 0).blk t).view.emb (ix3 z r l : S1x5120x256.Idx) = (ix3 (bat t.val) r (tok t.val l) : S3x5120x2048.Idx) := by
  obtain ⟨e0, e1, e2⟩ := index0 t
  have hz := z.isLt
  funext a; apply Fin.ext
  match a with
  | ⟨0, _⟩ => show win0_0.index t (0 : Fin 3) * 1 + 1 * z.val = t.val / 72 % 3; omega
  | ⟨1, _⟩ => show win0_0.index t (1 : Fin 3) * 5120 + 1 * r.val = r.val; omega
  | ⟨2, _⟩ => show win0_0.index t (2 : Fin 3) * 256 + 1 * l.val = t.val / 9 % 8 * 256 + l.val; omega

theorem emb1 (t : Fin cfg0.N) (o : Fin 384) (r : Fin 5120) :
    ((cfg0.win 1).blk t).view.emb (ix2 o r : S384x5120.Idx) = (ix2 (wrow (min t.val 8) o) r : S3456x5120.Idx) := by
  obtain ⟨e0, e1⟩ := index1 t
  funext a; apply Fin.ext
  match a with
  | ⟨0, _⟩ => show win0_1.index t (0 : Fin 2) * 384 + 1 * o.val = min t.val 8 % 9 * 384 + o.val; omega
  | ⟨1, _⟩ => show win0_1.index t (1 : Fin 2) * 5120 + 1 * r.val = r.val; omega

theorem emb2 (t : Fin cfg0.N) (z : Fin 1) (l : Fin 256) (o : Fin 384) :
    ((cfg0.win 2).blk t).view.emb (ix3 z l o : S1x256x384.Idx) = (ix3 (bat t.val) (tok t.val l) (wrow t.val o) : S3x2048x3456.Idx) := by
  obtain ⟨e0, e1, e2⟩ := index2 t
  have hz := z.isLt
  funext a; apply Fin.ext
  match a with
  | ⟨0, _⟩ => show win0_2.index t (0 : Fin 3) * 1 + 1 * z.val = t.val / 72 % 3; omega
  | ⟨1, _⟩ => show win0_2.index t (1 : Fin 3) * 256 + 1 * l.val = t.val / 9 % 8 * 256 + l.val; omega
  | ⟨2, _⟩ => show win0_2.index t (2 : Fin 3) * 384 + 1 * o.val = t.val % 9 * 384 + o.val; omega

theorem emb3 (t : Fin cfg0.N) (z : Fin 1) (r : Fin 5120) (l : Fin 256) :
    ((cfg0.win 3).blk t).view.emb (ix3 z r l : S1x5120x256.Idx) = (ix3 (bat t.val) r (tok t.val l) : S3x5120x2048.Idx) := by
  obtain ⟨e0, e1, e2⟩ := index3 t
  have hz := z.isLt
  funext a; apply Fin.ext
  match a with
  | ⟨0, _⟩ => show win0_3.index t (0 : Fin 3) * 1 + 1 * z.val = t.val / 72 % 3; omega
  | ⟨1, _⟩ => show win0_3.index t (1 : Fin 3) * 5120 + 1 * r.val = r.val; omega
  | ⟨2, _⟩ => show win0_3.index t (2 : Fin 3) * 256 + 1 * l.val = t.val / 9 % 8 * 256 + l.val; omega

theorem emb4 (t : Fin cfg0.N) (z : Fin 1) (g : Fin 40) (l : Fin 256) :
    ((cfg0.win 4).blk t).view.emb (ix3 z g l : S1x40x256.Idx) = (ix3 (bat t.val) g (tok t.val l) : S3x40x2048.Idx) := by
  obtain ⟨e0, e1, e2⟩ := index4 t
  have hz := z.isLt
  funext a; apply Fin.ext
  match a with
  | ⟨0, _⟩ => show win0_4.index t (0 : Fin 3) * 1 + 1 * z.val = t.val / 72 % 3; omega
  | ⟨1, _⟩ => show win0_4.index t (1 : Fin 3) * 40 + 1 * g.val = g.val; omega
  | ⟨2, _⟩ => show win0_4.index t (2 : Fin 3) * 256 + 1 * l.val = t.val / 9 % 8 * 256 + l.val; omega

theorem emb5 (t : Fin cfg0.N) (o : Fin 384) (r : Fin 5120) :
    ((cfg0.win 5).blk t).view.emb (ix2 o r : S384x5120.Idx) = (ix2 (wrow (min t.val 8) o) r : S3456x5120.Idx) := by
  obtain ⟨e0, e1⟩ := index5 t
  funext a; apply Fin.ext
  match a with
  | ⟨0, _⟩ => show win0_5.index t (0 : Fin 2) * 384 + 1 * o.val = min t.val 8 % 9 * 384 + o.val; omega
  | ⟨1, _⟩ => show win0_5.index t (1 : Fin 2) * 5120 + 1 * r.val = r.val; omega

theorem emb6 (t : Fin cfg0.N) (g : Fin 40) (o : Fin 384) :
    ((cfg0.win 6).blk t).view.emb (ix2 g o : S40x384.Idx) = (ix2 g (wrow (min t.val 8) o) : S40x3456.Idx) := by
  obtain ⟨e0, e1⟩ := index6 t
  funext a; apply Fin.ext
  match a with
  | ⟨0, _⟩ => show win0_6.index t (0 : Fin 2) * 40 + 1 * g.val = g.val; omega
  | ⟨1, _⟩ => show win0_6.index t (1 : Fin 2) * 384 + 1 * o.val = min t.val 8 % 9 * 384 + o.val; omega

/-! ## What the blocks hold -/

variable (m : (ℓ : Loc nD τ sig) → Buf (Elt Ideal) ℓ) (c : Dev nD)

/-- The tokens as launched, … -/
abbrev argX : Vec Ideal S5120x3x2048 .bf16 := m ((c : Thread nD τ).loc main_arg0)
/-- … and the weights. -/
abbrev argW : Vec Ideal S3456x5120 .bf16 := m ((c : Thread nD τ).loc main_arg1)

/-- The region finds the tokens transposed. -/
theorem V_main_v0 : V m c main_v0 = transpose S3x5120x2048 [1, 0, 2] (argX m c) transposes_S5120x3x2048_S3x5120x2048_1_0_2 := by
  show StableHlo.after (List.flatten [hostOps0]) (fun b => m (c, b)) (Proc.devRef .tc main_v0) = _
  rw [List.flatten_cons, List.flatten_nil, List.append_nil, StableHlo.after_cons, StableHlo.after_nil, StableHlo.unary_result']

theorem V_main_v0_at (b : Fin 3) (k : Fin 5120) (t : Fin 2048) :
    (V m c main_v0 : Vec Ideal S3x5120x2048 .bf16) (ix3 b k t) = argX m c (ix3 k b t) := by
  rw [V_main_v0]
  exact transpose_apply _ _ _ _ _ (fun a => match a with | ⟨0, _⟩ => rfl | ⟨1, _⟩ => rfl | ⟨2, _⟩ => rfl)

theorem blkX_at (k : ℕ) (hk : k < 216) (r : Fin 5120) (l : Fin 256) :
    blkX m c k (ix3 0 r l) = argX m c (ix3 r (bat k) (tok k l)) := by
  have e : (pt k).val = k := Nat.mod_eq_of_lt hk
  have h : blkX m c k (ix3 0 r l) = (V m c main_v0 : Vec Ideal S3x5120x2048 .bf16) (ix3 (bat (pt k).val) r (tok (pt k).val l)) :=
    congrArg (V m c main_v0 : Vec Ideal S3x5120x2048 .bf16) (emb0 (pt k) 0 r l)
  rw [h, e, V_main_v0_at]

theorem blkW_at (n : ℕ) (hn : n < 9) (o : Fin 384) (r : Fin 5120) :
    blkW m c n (ix2 o r) = argW m c (ix2 (wrow n o) r) := by
  have e : min (pt n).val 8 = n := by
    have : (pt n).val = n := Nat.mod_eq_of_lt (by omega)
    omega
  have h : blkW m c n (ix2 o r) = (V m c main_arg1 : Vec Ideal S3456x5120 .bf16) (ix2 (wrow (min (pt n).val 8) o) r) :=
    congrArg (V m c main_arg1 : Vec Ideal S3456x5120 .bf16) (emb1 (pt n) o r)
  rw [h, e, V_main_arg1]

theorem row_val (g : Fin 40) (r : Fin 128) : (⟨(128 * g.val + r.val) % 5120, Nat.mod_lt _ (by decide)⟩ : Fin 5120) = row g r :=
  Fin.ext (Nat.mod_eq_of_lt (row g r).isLt)

theorem grpX_at (k : ℕ) (hk : k < 216) (g : Fin 40) (r : Fin 128) (l : Fin 256) :
    grpX (blkX m c k) g.val (ix3 0 r l) = argX m c (ix3 (row g r) (bat k) (tok k l)) := by
  show blkX m c k (ix3 0 ⟨(128 * g.val + r.val) % 5120, _⟩ l) = _
  rw [row_val, blkX_at m c k hk]

theorem grpW_at (n : ℕ) (hn : n < 9) (g : Fin 40) (r : Fin 128) (o : Fin 384) :
    grpW (blkW m c n) g.val (ix2 o r) = argW m c (ix2 (wrow n o) (row g r)) := by
  show blkW m c n (ix2 o ⟨(128 * g.val + r.val) % 5120, _⟩) = _
  rw [row_val, blkW_at m c n hn]

theorem gX_eq (k : ℕ) (hk : k < 216) (g : Fin 40) (l : Fin 256) :
    gX (grpX (blkX m c k) g.val) l = xMax (argX m c) g (bat k) (tok k l) :=
  congrArg groupMax (funext fun r => grpX_at m c k hk g r l)

theorem gW_eq (n : ℕ) (hn : n < 9) (g : Fin 40) (o : Fin 384) :
    gW (grpW (blkW m c n) g.val) o = wMax (argW m c) (wrow n o) g :=
  congrArg groupMax (funext fun r => grpW_at m c n hn g r o)

/-! ## The tiles -/

section Def
variable {F : FTy → Type} [FloatOps F] (x0 : Vec F S1x5120x256 .bf16) (x1 : Vec F S384x5120 .bf16)

theorem XS_ix (g : Fin 40) (l : Fin 256) : XS x0 (ix3 0 g l) = sX (grpX x0 g.val) (ix3 0 0 l) := rfl
theorem XC_ix (g : Fin 40) (r : Fin 128) (l : Fin 256) : XC x0 (ix3 0 (row g r) l) = cX (grpX x0 g.val) (ix3 0 r l) := by
  have hr := r.isLt
  have e : (128 * g.val + r.val) / 128 = g.val := by omega
  have e' : (⟨(128 * g.val + r.val) % 128, Nat.mod_lt _ (by decide)⟩ : Fin 128) = r :=
    Fin.ext (by show (128 * g.val + r.val) % 128 = r.val; omega)
  show cX (grpX x0 ((128 * g.val + r.val) / 128)) (ix3 0 ⟨(128 * g.val + r.val) % 128, _⟩ l) = _
  rw [e', e]
theorem XQ_ix (g : Fin 40) (r : Fin 128) (l : Fin 256) : XQ x0 (ix2 (row g r) l) = dX (grpX x0 g.val) (ix2 r l) := by
  have hr := r.isLt
  have e : (128 * g.val + r.val) / 128 = g.val := by omega
  have e' : (⟨(128 * g.val + r.val) % 128, Nat.mod_lt _ (by decide)⟩ : Fin 128) = r :=
    Fin.ext (by show (128 * g.val + r.val) % 128 = r.val; omega)
  show dX (grpX x0 ((128 * g.val + r.val) / 128)) (ix2 ⟨(128 * g.val + r.val) % 128, _⟩ l) = _
  rw [e', e]
theorem WS_ix (g : Fin 40) (o : Fin 384) : WS x1 (ix2 g o) = sW (grpW x1 g.val) (ix2 0 o) := rfl
theorem WC_ix (g : Fin 40) (r : Fin 128) (o : Fin 384) : WC x1 (ix2 o (row g r)) = cW (grpW x1 g.val) (ix2 o r) := by
  have hr := r.isLt
  have e : (128 * g.val + r.val) / 128 = g.val := by omega
  have e' : (⟨(128 * g.val + r.val) % 128, Nat.mod_lt _ (by decide)⟩ : Fin 128) = r :=
    Fin.ext (by show (128 * g.val + r.val) % 128 = r.val; omega)
  show cW (grpW x1 ((128 * g.val + r.val) / 128)) (ix2 o ⟨(128 * g.val + r.val) % 128, _⟩) = _
  rw [e', e]
theorem WQ_ix (g : Fin 40) (r : Fin 128) (o : Fin 384) : WQ x1 (ix2 o (row g r)) = dW (grpW x1 g.val) (ix2 o r) := by
  have hr := r.isLt
  have e : (128 * g.val + r.val) / 128 = g.val := by omega
  have e' : (⟨(128 * g.val + r.val) % 128, Nat.mod_lt _ (by decide)⟩ : Fin 128) = r :=
    Fin.ext (by show (128 * g.val + r.val) % 128 = r.val; omega)
  show dW (grpW x1 ((128 * g.val + r.val) / 128)) (ix2 o ⟨(128 * g.val + r.val) % 128, _⟩) = _
  rw [e', e]

end Def

theorem exists_row (k : Fin 5120) : ∃ (g : Fin 40) (r : Fin 128), k = row g r :=
  ⟨grp k, ⟨k.val % 128, Nat.mod_lt _ (by decide)⟩, Fin.ext (by show k.val = 128 * (k.val / 128) + k.val % 128; omega)⟩

theorem grp_row (g : Fin 40) (r : Fin 128) : grp (row g r) = g :=
  Fin.ext (by show (128 * g.val + r.val) / 128 = g.val; have := r.isLt; omega)

/-- Every group's largest magnitude is bounded. -/
def BoundedX : Prop := ∀ g b t, Bounded (xMax (argX m c) g b t)
def BoundedW : Prop := ∀ o g, Bounded (wMax (argW m c) o g)

section X
variable (hX : BoundedX m c) (k : ℕ) (hk : k < 216)
include hX hk

theorem bX (g : Fin 40) (l : Fin 256) : Bounded (gX (grpX (blkX m c k) g.val) l) :=
  (gX_eq m c k hk g l).symm ▸ hX g _ _

theorem XS_at (g : Fin 40) (l : Fin 256) : XS (blkX m c k) (ix3 0 g l) = scale (xMax (argX m c) g (bat k) (tok k l)) := by
  rw [XS_ix, sX_at (bX m c hX k hk g l), gX_eq m c k hk]

theorem XC_at (r : Fin 5120) (l : Fin 256) : XC (blkX m c k) (ix3 0 r l) = xCode (argX m c) r (bat k) (tok k l) := by
  obtain ⟨g, r, rfl⟩ := exists_row r
  rw [XC_ix, cX_at (bX m c hX k hk g l), gX_eq m c k hk, grpX_at m c k hk, xCode, grp_row]

theorem XQ_at (r : Fin 5120) (l : Fin 256) : XQ (blkX m c k) (ix2 r l)
    = xCode (argX m c) r (bat k) (tok k l) * scale (xMax (argX m c) (grp r) (bat k) (tok k l)) := by
  obtain ⟨g, r, rfl⟩ := exists_row r
  rw [XQ_ix, dX_at (bX m c hX k hk g l), gX_eq m c k hk, grpX_at m c k hk, xCode, grp_row]

end X

section W
variable (hW : BoundedW m c) (n : ℕ) (hn : n < 9)
include hW hn

theorem bW (g : Fin 40) (o : Fin 384) : Bounded (gW (grpW (blkW m c n) g.val) o) :=
  (gW_eq m c n hn g o).symm ▸ hW _ g

theorem WS_at (g : Fin 40) (o : Fin 384) : WS (blkW m c n) (ix2 g o) = scale (wMax (argW m c) (wrow n o) g) := by
  rw [WS_ix, sW_at (bW m c hW n hn g o), gW_eq m c n hn]

theorem WC_at (o : Fin 384) (r : Fin 5120) : WC (blkW m c n) (ix2 o r) = wCode (argW m c) (wrow n o) r := by
  obtain ⟨g, r, rfl⟩ := exists_row r
  rw [WC_ix, cW_at (bW m c hW n hn g o), gW_eq m c n hn, grpW_at m c n hn, wCode, grp_row]

theorem WQ_at (o : Fin 384) (r : Fin 5120) : WQ (blkW m c n) (ix2 o r)
    = wCode (argW m c) (wrow n o) r * scale (wMax (argW m c) (wrow n o) (grp r)) := by
  obtain ⟨g, r, rfl⟩ := exists_row r
  rw [WQ_ix, dW_at (bW m c hW n hn g o), gW_eq m c n hn, grpW_at m c n hn, wCode, grp_row]

end W

end Cert.KernelIdeal.Gen

end
-- ==== Proof.KI.Values.lean ====
/-
  The kernel's five results in closed form of its arguments, where every group's largest magnitude is bounded as the
  precondition says.
-/
module

public import proofs.«01_k».proof.Proof.KI.Tiles

@[expose] public section

noncomputable section

namespace Cert.KernelIdeal.Gen

open Idealize.ShloMosaic hiding ix2 ix3
open Idealize.ShloMosaic.TcCoe Idealize.ShloMosaic.ValueIdx Cert.GroupScale

variable (m : (ℓ : Loc nD τ sig) → Buf (Elt Ideal) ℓ) (ρ : Dev nD → PrngReg) (c : Dev nD)

/-! ## The arrays, as the closed form -/

/-- The product, … -/
def yArr (x : S5120x3x2048.Idx → EReal) (w : S3456x5120.Idx → EReal) : S3x2048x3456.Idx → EReal := fun i => prod x w (i 0) (i 1) (i 2)
theorem yArr_at (x : S5120x3x2048.Idx → EReal) (w : S3456x5120.Idx → EReal) (b : Fin 3) (t : Fin 2048) (o : Fin 3456) :
    yArr x w (ix3 b t o) = prod x w b t o := rfl
/-- … the token codes and scales, batch first, … -/
def xcArr (x : S5120x3x2048.Idx → EReal) : S3x5120x2048.Idx → EReal := fun i => xCode x (i 1) (i 0) (i 2)
def xsArr (x : S5120x3x2048.Idx → EReal) : S3x40x2048.Idx → EReal := fun i => scale (xMax x (i 1) (i 0) (i 2))
/-- … the weight codes, and the weight scales, group first. -/
def wcArr (w : S3456x5120.Idx → EReal) : S3456x5120.Idx → EReal := fun i => wCode w (i 0) (i 1)
def wsArr (w : S3456x5120.Idx → EReal) : S40x3456.Idx → EReal := fun i => scale (wMax w (i 1) (i 0))

theorem lt_N (t : Fin cfg0.N) : t.val < 216 := lt_of_lt_of_eq t.isLt N_0

theorem arr2 (hX : BoundedX m c) (hW : BoundedW m c) : (dats m 0 c).arrAt 2 cfg0.N = yArr (argX m c) (argW m c) := by
  refine (dats m 0 c).arrAt_eq_of_covers 2 (yArr (argX m c) (argW m c)) (by decide +kernel) fun t hf y => ?_
  have ht := lt_N t
  have key : ∀ (l : Fin 256) (o : Fin 384), (dats m 0 c).after 2 t (ix3 0 l o : S1x256x384.Idx)
      = yArr (argX m c) (argW m c) (((cfg0.win 2).blk t).view.emb (ix3 0 l o : S1x256x384.Idx)) := fun l o => by
    rw [after0_2, emb2]
    refine (k0_pay1_at (WQ (blkW m c (t.val % 9))) (XQ (blkX m c (t.val / 9 * 9))) l o).trans ?_
    rw [yArr_at, prod]
    refine Finset.sum_congr rfl fun r _ => congrArg₂ (fun p q : EReal => p * q) ?_ ?_
    · refine (WQ_at m c hW (t.val % 9) (Nat.mod_lt _ (by decide)) o r).trans ?_
      have e : wrow (t.val % 9) o = wrow t.val o := Fin.ext (by show t.val % 9 % 9 * 384 + o.val = t.val % 9 * 384 + o.val; omega)
      rw [e]
    · refine (XQ_at m c hX (t.val / 9 * 9) (by omega) r l).trans ?_
      rw [bat_div, tok_div]
  have hy : y = (ix3 0 (y 1) (y 2) : S1x256x384.Idx) := by
    funext a
    match a with
    | ⟨0, _⟩ => exact Fin.ext (by have : (y 0).val < 1 := (y 0).isLt; show (y 0).val = 0; omega)
    | ⟨1, _⟩ => rfl
    | ⟨2, _⟩ => rfl
  rw [hy]
  exact key (y 1) (y 2)

theorem arr3 (hX : BoundedX m c) : (dats m 0 c).arrAt 3 cfg0.N = xcArr (argX m c) := by
  refine (dats m 0 c).arrAt_eq_of_covers 3 (xcArr (argX m c)) (by decide +kernel) fun t hf y => ?_
  have ht := lt_N t
  have key : ∀ (r : Fin 5120) (l : Fin 256), (dats m 0 c).after 3 t (ix3 0 r l : S1x5120x256.Idx)
      = xcArr (argX m c) (((cfg0.win 3).blk t).view.emb (ix3 0 r l : S1x5120x256.Idx)) := fun r l => by
    rw [after0_3, emb3]
    refine (XC_at m c hX (t.val / 9 * 9) (by omega) r l).trans ?_
    rw [bat_div, tok_div]
    rfl
  have hy : y = (ix3 0 (y 1) (y 2) : S1x5120x256.Idx) := by
    funext a
    match a with
    | ⟨0, _⟩ => exact Fin.ext (by have : (y 0).val < 1 := (y 0).isLt; show (y 0).val = 0; omega)
    | ⟨1, _⟩ => rfl
    | ⟨2, _⟩ => rfl
  rw [hy]
  exact key (y 1) (y 2)

theorem arr4 (hX : BoundedX m c) : (dats m 0 c).arrAt 4 cfg0.N = xsArr (argX m c) := by
  refine (dats m 0 c).arrAt_eq_of_covers 4 (xsArr (argX m c)) (by decide +kernel) fun t hf y => ?_
  have ht := lt_N t
  have key : ∀ (g : Fin 40) (l : Fin 256), (dats m 0 c).after 4 t (ix3 0 g l : S1x40x256.Idx)
      = xsArr (argX m c) (((cfg0.win 4).blk t).view.emb (ix3 0 g l : S1x40x256.Idx)) := fun g l => by
    rw [after0_4, emb4]
    refine (XS_at m c hX (t.val / 9 * 9) (by omega) g l).trans ?_
    rw [bat_div, tok_div]
    rfl
  have hy : y = (ix3 0 (y 1) (y 2) : S1x40x256.Idx) := by
    funext a
    match a with
    | ⟨0, _⟩ => exact Fin.ext (by have : (y 0).val < 1 := (y 0).isLt; show (y 0).val = 0; omega)
    | ⟨1, _⟩ => rfl
    | ⟨2, _⟩ => rfl
  rw [hy]
  exact key (y 1) (y 2)

theorem arr5 (hW : BoundedW m c) : (dats m 0 c).arrAt 5 cfg0.N = wcArr (argW m c) := by
  refine (dats m 0 c).arrAt_eq_of_covers 5 (wcArr (argW m c)) (by decide +kernel) fun t hf y => ?_
  have key : ∀ (o : Fin 384) (r : Fin 5120), (dats m 0 c).after 5 t (ix2 o r : S384x5120.Idx)
      = wcArr (argW m c) (((cfg0.win 5).blk t).view.emb (ix2 o r : S384x5120.Idx)) := fun o r => by
    rw [after0_5, emb5]
    exact WC_at m c hW (min t.val 8) (by omega) o r
  have hy : y = (ix2 (y 0) (y 1) : S384x5120.Idx) := by
    funext a
    match a with
    | ⟨0, _⟩ => rfl
    | ⟨1, _⟩ => rfl
  rw [hy]
  exact key (y 0) (y 1)

theorem arr6 (hW : BoundedW m c) : (dats m 0 c).arrAt 6 cfg0.N = wsArr (argW m c) := by
  refine (dats m 0 c).arrAt_eq_of_covers 6 (wsArr (argW m c)) (by decide +kernel) fun t hf y => ?_
  have key : ∀ (g : Fin 40) (o : Fin 384), (dats m 0 c).after 6 t (ix2 g o : S40x384.Idx)
      = wsArr (argW m c) (((cfg0.win 6).blk t).view.emb (ix2 g o : S40x384.Idx)) := fun g o => by
    rw [after0_6, emb6]
    exact WS_at m c hW (min t.val 8) (by omega) g o
  have hy : y = (ix2 (y 0) (y 1) : S40x384.Idx) := by
    funext a
    match a with
    | ⟨0, _⟩ => rfl
    | ⟨1, _⟩ => rfl
  rw [hy]
  exact key (y 0) (y 1)

/-! ## The transposed results -/

theorem exit_at (w : Fin cfg0.W) :
    Pipeline.withArrays (cfgs 0).spec c (V0 m c) (fun w => (dats m 0 c).arrAt w (cfgs 0).N) (Proc.devRef .tc (Pipeline.arrRef spec0 w))
      = (dats m 0 c).arrAt w cfg0.N :=
  Pipeline.withArrays_arr spec0 (by decide) c (V0 m c) _ w

theorem tail_main_v2 : Pipeline.afterTail₀ cfgs (dats m) 0 (V0 m) [hostOps1] c main_v2
    = transpose S5120x3x2048 [1, 0, 2] ((dats m 0 c).arrAt 3 cfg0.N : Vec Ideal S3x5120x2048 .fp8e4m3) transposes_S3x5120x2048_S5120x3x2048_1_0_2 := by
  unfold Pipeline.afterTail₀
  rw [List.flatten_cons, List.flatten_nil, List.append_nil, StableHlo.after_cons, StableHlo.after_cons, StableHlo.after_cons, StableHlo.after_nil,
    StableHlo.unary_result_ne, StableHlo.unary_result_ne, StableHlo.unary_result']
  exact congrArg (fun z : Vec Ideal S3x5120x2048 .fp8e4m3 => transpose S5120x3x2048 [1, 0, 2] z transposes_S3x5120x2048_S5120x3x2048_1_0_2) (exit_at m c 3)
  all_goals decide

theorem tail_main_v3 : Pipeline.afterTail₀ cfgs (dats m) 0 (V0 m) [hostOps1] c main_v3
    = transpose S40x3x2048 [1, 0, 2] ((dats m 0 c).arrAt 4 cfg0.N : Vec Ideal S3x40x2048 .f32) transposes_S3x40x2048_S40x3x2048_1_0_2 := by
  unfold Pipeline.afterTail₀
  rw [List.flatten_cons, List.flatten_nil, List.append_nil, StableHlo.after_cons, StableHlo.after_cons, StableHlo.after_cons, StableHlo.after_nil,
    StableHlo.unary_result_ne, StableHlo.unary_result', StableHlo.unary_result_ne]
  exact congrArg (fun z : Vec Ideal S3x40x2048 .f32 => transpose S40x3x2048 [1, 0, 2] z transposes_S3x40x2048_S40x3x2048_1_0_2) (exit_at m c 4)
  all_goals decide

theorem tail_main_v4 : Pipeline.afterTail₀ cfgs (dats m) 0 (V0 m) [hostOps1] c main_v4
    = transpose S3456x40 [1, 0] ((dats m 0 c).arrAt 6 cfg0.N : Vec Ideal S40x3456 .f32) transposes_S40x3456_S3456x40_1_0 := by
  unfold Pipeline.afterTail₀
  rw [List.flatten_cons, List.flatten_nil, List.append_nil, StableHlo.after_cons, StableHlo.after_cons, StableHlo.after_cons, StableHlo.after_nil,
    StableHlo.unary_result', StableHlo.unary_result_ne, StableHlo.unary_result_ne]
  exact congrArg (fun z : Vec Ideal S40x3456 .f32 => transpose S3456x40 [1, 0] z transposes_S40x3456_S3456x40_1_0) (exit_at m c 6)
  all_goals decide

/-! ## The run -/

/-- The token codes and scales, and the weight scales, as the kernel returns them. -/
def xcOut (x : S5120x3x2048.Idx → EReal) : S5120x3x2048.Idx → EReal := fun i => xCode x (i 0) (i 1) (i 2)
def xsOut (x : S5120x3x2048.Idx → EReal) : S40x3x2048.Idx → EReal := fun i => scale (xMax x (i 0) (i 1) (i 2))
def wsOut (w : S3456x5120.Idx → EReal) : S3456x40.Idx → EReal := fun i => scale (wMax w (i 0) (i 1))

theorem swap_xc (x : S5120x3x2048.Idx → EReal) (h : S3x5120x2048.Transposes [1, 0, 2] S5120x3x2048) :
    transpose S5120x3x2048 [1, 0, 2] (xcArr x) h = xcOut x := by
  funext i
  obtain ⟨a, b, t, rfl⟩ : ∃ a b t, i = ix3 a b t := ⟨i 0, i 1, i 2, Idealize.ShloMosaic.ValueIdx.eq_ix3 i⟩
  exact transpose_apply _ _ h _ (ix3 b a t) (fun a => match a with | ⟨0, _⟩ => rfl | ⟨1, _⟩ => rfl | ⟨2, _⟩ => rfl)
theorem swap_xs (x : S5120x3x2048.Idx → EReal) (h : S3x40x2048.Transposes [1, 0, 2] S40x3x2048) :
    transpose S40x3x2048 [1, 0, 2] (xsArr x) h = xsOut x := by
  funext i
  obtain ⟨a, b, t, rfl⟩ : ∃ a b t, i = ix3 a b t := ⟨i 0, i 1, i 2, Idealize.ShloMosaic.ValueIdx.eq_ix3 i⟩
  exact transpose_apply _ _ h _ (ix3 b a t) (fun a => match a with | ⟨0, _⟩ => rfl | ⟨1, _⟩ => rfl | ⟨2, _⟩ => rfl)
theorem swap_ws (w : S3456x5120.Idx → EReal) (h : S40x3456.Transposes [1, 0] S3456x40) :
    transpose S3456x40 [1, 0] (wsArr w) h = wsOut w := by
  funext i
  obtain ⟨a, b, rfl⟩ : ∃ a b, i = ix2 a b := ⟨i 0, i 1, Idealize.ShloMosaic.ValueIdx.eq_ix2 i⟩
  exact transpose_apply _ _ h _ (ix2 b a) (fun a => match a with | ⟨0, _⟩ => rfl | ⟨1, _⟩ => rfl)

/-- The kernel ends with the closed form in each result, and its arguments as launched. -/
theorem values (hX : ∀ c, BoundedX m c) (hW : ∀ c, BoundedW m c) :
    θ_run defs (onTc (τ := τ) (main (F := Ideal))) ⟨m, fun _ => 0, ρ⟩ fun r => ∀ c : Dev nD,
      r.2.mem ((c.tc : Thread nD τ).loc main_v1_0) = yArr (argX m c) (argW m c)
      ∧ r.2.mem ((c.tc : Thread nD τ).loc main_v2) = xcOut (argX m c)
      ∧ r.2.mem ((c.tc : Thread nD τ).loc main_v3) = xsOut (argX m c)
      ∧ r.2.mem ((c.tc : Thread nD τ).loc main_v1_3) = wcArr (argW m c)
      ∧ r.2.mem ((c.tc : Thread nD τ).loc main_v4) = wsOut (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (θ_run_and (run_main m ρ) (unchanged m ρ))
  obtain ⟨hr, hu⟩ := h
  obtain ⟨ha, hb⟩ := hr c
  refine ⟨(ha 2).trans (arr2 m c (hX c) (hW c)), ?_, ?_, (ha 5).trans (arr5 m c (hW c)), ?_, hu c⟩
  · refine (hb main_v2 (Pipeline.mem_restRefs_of main_v2 (by decide) (by decide))).trans ((tail_main_v2 m c).trans ?_)
    rw [arr3 m c (hX c)]
    exact swap_xc _ _
  · refine (hb main_v3 (Pipeline.mem_restRefs_of main_v3 (by decide) (by decide))).trans ((tail_main_v3 m c).trans ?_)
    rw [arr4 m c (hX c)]
    exact swap_xs _ _
  · refine (hb main_v4 (Pipeline.mem_restRefs_of main_v4 (by decide) (by decide))).trans ((tail_main_v4 m c).trans ?_)
    rw [arr6 m c (hW c)]
    exact swap_ws _ _

end Cert.KernelIdeal.Gen

end
-- ==== Proof.Eq.RefPay.lean ====
/-
  The reference's payloads read index by index over the extended reals: they are the closed form, with no condition.
-/
module

public import proofs.«01_k».proof.Proof.Eq.Spec
public import proofs.«01_k».proof.Proof.Gen.ReferenceIdeal.Skeleton
public import Idealize.ShloMosaic.PureOps.IdealRules
public import Idealize.ShloMosaic.Lib.IdealHost
public import Idealize.ShloMosaic.Lib.KernelVsHost

@[expose] public section

noncomputable section

namespace Cert.ReferenceIdeal.Gen

open Idealize.ShloMosaic Idealize.ShloMosaic.ValueIdx Cert.GroupScale

/-! ## Layout -/

section Layout
variable {α : Type}

theorem x_split (x : S5120x3x2048.Idx → α) (h : S5120x3x2048.ShapeCasts S40x128x3x2048) (g : Fin 40) (r : Fin 128) (b : Fin 3)
    (t : Fin 2048) : shapeCast S40x128x3x2048 x h (ix4 g r b t) = x (ix3 (row g r) b t) :=
  shapeCast_apply x h _ _ (by
    rw [Shape.rowMajor_val_three, Shape.rowMajor_val_four]
    show ((128 * g.val + r.val) * 3 + b.val) * 2048 + t.val = ((g.val * 128 + r.val) * 3 + b.val) * 2048 + t.val
    omega)

theorem x_merge (x : S40x128x3x2048.Idx → α) (h : S40x128x3x2048.ShapeCasts S5120x3x2048) (g : Fin 40) (r : Fin 128) (b : Fin 3)
    (t : Fin 2048) : shapeCast S5120x3x2048 x h (ix3 (row g r) b t) = x (ix4 g r b t) :=
  shapeCast_apply x h _ _ (by
    rw [Shape.rowMajor_val_three, Shape.rowMajor_val_four]
    show ((g.val * 128 + r.val) * 3 + b.val) * 2048 + t.val = ((128 * g.val + r.val) * 3 + b.val) * 2048 + t.val
    omega)

/-- A group's value spread over its 128 rows. -/
theorem x_spread (x : S40x3x2048.Idx → α) (h : S40x3x2048.ShapeCasts S40x1x3x2048) (h' : S40x1x3x2048.Broadcasts S40x128x3x2048)
    (g : Fin 40) (r : Fin 128) (b : Fin 3) (t : Fin 2048) :
    broadcastTo S40x128x3x2048 (shapeCast S40x1x3x2048 x h) h' (ix4 g r b t) = x (ix3 g b t) := by
  refine (broadcastTo_apply _ h' _ (ix4 g 0 b t) (fun a => by
    match a with | ⟨0, _⟩ => rfl | ⟨1, _⟩ => rfl | ⟨2, _⟩ => rfl | ⟨3, _⟩ => rfl)).trans ?_
  exact shapeCast_apply x h _ _ (by
    rw [Shape.rowMajor_val_three, Shape.rowMajor_val_four]
    show (g.val * 3 + b.val) * 2048 + t.val = ((g.val * 1 + 0) * 3 + b.val) * 2048 + t.val
    omega)

theorem w_split (x : S3456x5120.Idx → α) (h : S3456x5120.ShapeCasts S3456x40x128) (o : Fin 3456) (g : Fin 40) (r : Fin 128) :
    shapeCast S3456x40x128 x h (ix3 o g r) = x (ix2 o (row g r)) :=
  shapeCast_apply x h _ _ (by
    rw [Shape.rowMajor_val_three, Shape.rowMajor_val_two]
    show o.val * 5120 + (128 * g.val + r.val) = (o.val * 40 + g.val) * 128 + r.val
    omega)

theorem w_merge (x : S3456x40x128.Idx → α) (h : S3456x40x128.ShapeCasts S3456x5120) (o : Fin 3456) (g : Fin 40) (r : Fin 128) :
    shapeCast S3456x5120 x h (ix2 o (row g r)) = x (ix3 o g r) :=
  shapeCast_apply x h _ _ (by
    rw [Shape.rowMajor_val_three, Shape.rowMajor_val_two]
    show (o.val * 40 + g.val) * 128 + r.val = o.val * 5120 + (128 * g.val + r.val)
    omega)

theorem w_spread (x : S3456x40.Idx → α) (h : S3456x40.ShapeCasts S3456x40x1) (h' : S3456x40x1.Broadcasts S3456x40x128)
    (o : Fin 3456) (g : Fin 40) (r : Fin 128) :
    broadcastTo S3456x40x128 (shapeCast S3456x40x1 x h) h' (ix3 o g r) = x (ix2 o g) := by
  refine (broadcastTo_apply _ h' _ (ix3 o g 0) (fun a => by
    match a with | ⟨0, _⟩ => rfl | ⟨1, _⟩ => rfl | ⟨2, _⟩ => rfl)).trans ?_
  exact shapeCast_apply x h _ _ (by
    rw [Shape.rowMajor_val_three, Shape.rowMajor_val_two]
    show o.val * 40 + g.val = (o.val * 40 + g.val) * 1 + 0
    omega)

end Layout

/-- Every row is a row of its group. -/
theorem exists_row (k : Fin 5120) : ∃ (g : Fin 40) (r : Fin 128), k = row g r :=
  ⟨grp k, ⟨k.val % 128, Nat.mod_lt _ (by decide)⟩, Fin.ext (by show k.val = 128 * (k.val / 128) + k.val % 128; omega)⟩

theorem grp_row (g : Fin 40) (r : Fin 128) : grp (row g r) = g :=
  Fin.ext (by show (128 * g.val + r.val) / 128 = g.val; have := r.isLt; omega)

theorem ofBits_one : Ideal.ofBits .f32 0x3F800000#32 = 1 := by
  simp [Ideal.ofBits, Ideal.ieee, -EReal.coe_mul]; norm_num

theorem ln2 : Named.named (F := Ideal) κ "ln2" (φ := .f32) 0x3F317218#32 = ((Real.log 2 : ℝ) : EReal) :=
  IdealRules.named_const.ideal_named_scalar _ _ _ _ rfl

/-- The reference's choice of exponent, from the group maximum. -/
theorem exp_at {s : Shape} (M : FVec Ideal s .f32) (i : s.Idx) :
    select (cmpf .oeq M (broadcast s (Scalar.ofBits .f32 0x00000000#32))) (broadcast s (Scalar.sitofp .f32 0#32))
      (addf (floor (divf (log (mulf M (broadcast s (Scalar.ofBits .f32 0x3B124925#32))))
        (broadcast s (Named.named (F := Ideal) κ "ln2" (φ := .f32) 0x3F317218#32)))) (broadcast s (Scalar.ofBits .f32 0x3F800000#32))) i
      = rExp (M i) := by
  rw [ln2]
  have e : addf (floor (divf (log (mulf M (broadcast s (Scalar.ofBits .f32 0x3B124925#32))))
        (broadcast s ((Real.log 2 : ℝ) : EReal)))) (broadcast s (Scalar.ofBits .f32 0x3F800000#32)) i
      = Ideal.liftRound Int.floor (Ideal.div (Ideal.log (M i * factor)) ((Real.log 2 : ℝ) : EReal)) + 1 :=
    (addf_apply _ _ i).trans (congrArg₂ (fun p q : EReal => p + q) rfl ofBits_one)
  have z : (cmpf .oeq M (broadcast s (Scalar.ofBits .f32 0x00000000#32)) : IVec s 1) i = Ideal.cmp .oeq (M i) 0 :=
    congrArg (Ideal.cmp .oeq (M i)) Ideal.ofBits_zero_f32
  rw [select_apply, z, e, rExp, broadcast_apply]
  by_cases h : M i = 0
  · rw [if_pos h]
    simp only [Ideal.cmp, h, decide_true]
    exact sitofp_zero
  · rw [if_neg h]
    simp only [Ideal.cmp, h, decide_false]
    rfl

theorem exp2_at {s : Shape} (M : FVec Ideal s .f32) (i : s.Idx) : exp2 M i = Ideal.exp2 (M i) := rfl

/-- Minus the exponent, as both operands take it. -/
theorem neg_at {s : Shape} (M : FVec Ideal s .f32) (i : s.Idx) :
    exp2 (subf (broadcast s (Scalar.ofBits .f32 0x00000000#32)) M) i = Ideal.exp2 (0 - M i) :=
  (exp2_at _ i).trans (congrArg (fun z : EReal => Ideal.exp2 (z - M i)) Ideal.ofBits_zero_f32)

/-- The clipped code, as both operands take it. -/
theorem code_at {s : Shape} (a b : FVec Ideal s .f32) (h : FTy.bits .fp8e4m3 < FTy.bits .f32) (i : s.Idx) :
    (truncf .fp8e4m3 (minimumf (broadcast s (Scalar.ofBits .f32 0x43E00000#32))
      (maximumf (broadcast s (Scalar.ofBits .f32 0xC3E00000#32)) (mulf a b))) h : FVec Ideal s .fp8e4m3) i = code (a i) (b i) := rfl

/-! ## The tokens -/

section X
variable (x : Vec Ideal S5120x3x2048 .bf16) (g : Fin 40) (r : Fin 128) (b : Fin 3) (t : Fin 2048)

theorem k0_pay3_at : k0_pay3 x (ix4 g r b t) = x (ix3 (row g r) b t) := by
  unfold k0_pay3
  exact x_split _ _ g r b t

/-- The group's largest magnitude. -/
theorem xMax_at (h : S40x128x3x2048.Reduces [1] S40x3x2048) (hφ : FKind.Formats .f32)
    (hacc : (0xFF800000#32 : BitVec 32) = FKind.maximumf.neutral .f32 hφ) :
    multiReduction .maximumf [1] S40x3x2048 (absf (k0_pay3 x)) 0xFF800000#32 h hφ hacc (ix3 g b t) = xMax x g b t := by
  have e : ∀ k : Fin 128, h.lift (ix3 g b t) k = ix4 g k b t := fun k => by
    funext a; match a with | ⟨0, _⟩ => rfl | ⟨1, _⟩ => rfl | ⟨2, _⟩ => rfl | ⟨3, _⟩ => rfl
  have hf : absf (k0_pay3 x) ∘ h.lift (ix3 g b t)
      = fun k : Fin 128 => (max (x (ix3 (row g k) b t)) (-(x (ix3 (row g k) b t))) : EReal) :=
    funext fun k => (congrArg (absf (k0_pay3 x)) (e k)).trans
      (congrArg (fun z : EReal => max z (-z)) (k0_pay3_at x g k b t))
  refine (Ideal.multiReduction_maximumf_single (absf (k0_pay3 x)) 0xFF800000#32 h hφ hacc (ix3 g b t)).trans ?_
  exact congrArg (Finset.fold max (Ideal.ofBits .f32 0xFF800000#32) · Finset.univ) hf

theorem k0_pay4_at : k0_pay4 x (ix3 g b t) = rExp (xMax x g b t) := by
  unfold k0_pay4
  dsimp only
  exact (exp_at _ (ix3 g b t)).trans (congrArg rExp (xMax_at x g b t _ _ _))

theorem k0_pay5_at : k0_pay5 x (ix3 g b t) = scale (xMax x g b t) := by
  unfold k0_pay5
  exact (exp2_at _ _).trans (congrArg Ideal.exp2 (k0_pay4_at x g b t))

theorem k0_pay6_at : k0_pay6 x (ix3 (row g r) b t) = code (x (ix3 (row g r) b t)) (inverse (xMax x g b t)) := by
  unfold k0_pay6
  refine (x_merge _ _ g r b t).trans ?_
  refine (code_at _ _ _ _).trans (congrArg₂ code (k0_pay3_at x g r b t) ((x_spread _ _ _ g r b t).trans ?_))
  exact (neg_at _ _).trans (congrArg (fun z : EReal => Ideal.exp2 (0 - z)) (k0_pay4_at x g b t))

theorem k0_pay13_at : k0_pay13 (k0_pay5 x) (k0_pay6 x) (ix3 (row g r) b t)
    = code (x (ix3 (row g r) b t)) (inverse (xMax x g b t)) * scale (xMax x g b t) := by
  unfold k0_pay13
  refine (x_merge _ _ g r b t).trans ?_
  exact (mulf_apply _ _ _).trans <| congrArg₂ (fun p q : EReal => p * q) ((x_split _ _ g r b t).trans ((extf_apply (φ := .fp8e4m3) (ψ := .bf16) _ bitsLt_fp8e4m3_bf16 _).trans (k0_pay6_at x g r b t)))
    ((x_spread _ _ _ g r b t).trans ((truncf_apply (φ := .f32) (ψ := .bf16) _ bitsLt_bf16_f32 _).trans (k0_pay5_at x g b t)))

end X

/-! ## The weights -/

section W
variable (w : Vec Ideal S3456x5120 .bf16) (o : Fin 3456) (g : Fin 40) (r : Fin 128)

theorem k0_pay7_at : k0_pay7 w (ix3 o g r) = w (ix2 o (row g r)) := by
  unfold k0_pay7
  exact w_split _ _ o g r

theorem k0_pay8_at : k0_pay8 w (ix2 o g) = wMax w o g := by
  unfold k0_pay8
  dsimp only
  have e : ∀ k : Fin 128, reduces_S3456x40x128_S3456x40.lift (ix2 o g) k = ix3 o g k := fun k => by
    funext a; match a with | ⟨0, _⟩ => rfl | ⟨1, _⟩ => rfl | ⟨2, _⟩ => rfl
  have hf : absf (k0_pay7 w) ∘ reduces_S3456x40x128_S3456x40.lift (ix2 o g)
      = fun k : Fin 128 => (max (w (ix2 o (row g k))) (-(w (ix2 o (row g k)))) : EReal) :=
    funext fun k => (congrArg (absf (k0_pay7 w)) (e k)).trans
      (congrArg (fun z : EReal => max z (-z)) (k0_pay7_at w o g k))
  refine (Ideal.multiReduction_maximumf_single (absf (k0_pay7 w)) 0xFF800000#32 reduces_S3456x40x128_S3456x40 _ _ (ix2 o g)).trans ?_
  exact congrArg (Finset.fold max (Ideal.ofBits .f32 0xFF800000#32) · Finset.univ) hf

/-- The constant one, as the weights' exponent takes it. -/
abbrev one : Ideal .f32 := Scalar.ofBits .f32 0x3F800000#32

theorem k0_pay10_at : k0_pay10 (k0_pay8 w) (k0_pay9 w) one (ix2 o g) = rExp (wMax w o g) := by
  unfold k0_pay10 k0_pay9
  dsimp only
  exact (exp_at _ (ix2 o g)).trans (congrArg rExp (k0_pay8_at w o g))

theorem k0_pay11_at : k0_pay11 (k0_pay8 w) (k0_pay9 w) one (ix2 o g) = scale (wMax w o g) := by
  unfold k0_pay11
  exact (exp2_at _ _).trans (congrArg Ideal.exp2 (k0_pay10_at w o g))

theorem k0_pay12_at : k0_pay12 (k0_pay7 w) (k0_pay8 w) (k0_pay9 w) one (ix2 o (row g r))
    = code (w (ix2 o (row g r))) (inverse (wMax w o g)) := by
  unfold k0_pay12
  refine (w_merge _ _ o g r).trans ?_
  refine (code_at _ _ _ _).trans (congrArg₂ code (k0_pay7_at w o g r) ((w_spread _ _ _ o g r).trans ?_))
  exact (neg_at _ _).trans (congrArg (fun z : EReal => Ideal.exp2 (0 - z)) (k0_pay10_at w o g))

theorem k0_pay14_at : k0_pay14 (k0_pay7 w) (k0_pay8 w) (k0_pay9 w) one (ix2 o (row g r))
    = code (w (ix2 o (row g r))) (inverse (wMax w o g)) * scale (wMax w o g) := by
  unfold k0_pay14
  refine (w_merge _ _ o g r).trans ?_
  exact (mulf_apply _ _ _).trans <| congrArg₂ (fun p q : EReal => p * q) ((w_split _ _ o g r).trans ((extf_apply (φ := .fp8e4m3) (ψ := .bf16) _ bitsLt_fp8e4m3_bf16 _).trans (k0_pay12_at w o g r)))
    ((w_spread _ _ _ o g r).trans ((truncf_apply (φ := .f32) (ψ := .bf16) _ bitsLt_bf16_f32 _).trans (k0_pay11_at w o g)))

end W

/-! ## The products -/

/-- One batch's product: a slab of the dequantised tokens against the dequantised weights. -/
theorem batch_at (X : FVec Ideal S5120x3x2048 .bf16) (W : FVec Ideal S3456x5120 .bf16) (b : Fin 3) (off : Fin 3 → ℕ)
    (hoff : off = ![0, b.val, 0]) (h : S5120x3x2048.Slices off S5120x1x2048) (h' : S5120x1x2048.ShapeCasts S5120x2048) (t : Fin 2048) (o : Fin 3456) :
    matmul dot_S5120x2048_S3456x5120_S2048x3456_0_1_1_0_n_n none
      (shapeCast S5120x2048 (extractStridedSlice S5120x1x2048 off X h) h') W (constant S2048x3456 .f32 0x00000000#32) (ix2 t o)
      = ∑ k : Fin 5120, W (ix2 o k) * X (ix3 k b t) := by
  subst hoff
  refine (Ideal.matmul_constant_zero_apply dot_S5120x2048_S3456x5120_S2048x3456_0_1_1_0_n_n none (φ₁ := .bf16) (φ₂ := .bf16) _ W (ix2 t o)).trans ?_
  refine Fintype.sum_equiv (contrEquiv1 dot_S5120x2048_S3456x5120_S2048x3456_0_1_1_0_n_n 5120 rfl rfl) _ _ fun k => ?_
  refine (mul_comm _ _).trans (congrArg₂ (· * ·) (congrArg W ?_) ?_)
  · funext a; match a with | ⟨0, _⟩ => rfl | ⟨1, _⟩ => rfl
  · refine (shapeCast_apply _ h' _ (ix3 (contrEquiv1 dot_S5120x2048_S3456x5120_S2048x3456_0_1_1_0_n_n 5120 rfl rfl k) 0 t) ?_).trans ?_
    · rw [Shape.rowMajor_val_three, Shape.rowMajor_val_two]
      show (_ * 1 + 0) * 2048 + t.val = _ * 2048 + t.val
      rw [mul_one, add_zero]
      rfl
    · exact extractStridedSlice_apply _ X h _ (ix3 _ b t) (fun a => by
        match a with | ⟨0, _⟩ => exact (Nat.zero_add _).symm | ⟨1, _⟩ => rfl | ⟨2, _⟩ => exact (Nat.zero_add _).symm)

end Cert.ReferenceIdeal.Gen

end
-- ==== Proof.Eq.Pre.lean ====
/-
  What the precondition says: every group's largest magnitude is zero, or lies between 448 · 2⁻¹²⁶ and the largest
  bf16 value.
-/
module

public import proofs.«01_k».proof.Proof.Eq.RefPay
public import proofs.«01_k».proof.Pre_scales_normal

@[expose] public section

noncomputable section

namespace Cert.Pre_scales_normal

open Idealize.ShloMosaic Idealize.ShloMosaic.ValueIdx Cert.GroupScale

theorem facts : Facts where
  bitsLt_bf16_f32 := by decide
  shapeCasts_S5120x3x2048_S40x128x3x2048 := by decide
  reducesTo_S40x128x3x2048_S40x3x2048_d1 := by decide
  h_S_ := by decide
  shapeCasts_S3456x5120_S3456x40x128 := by decide
  reducesTo_S3456x40x128_S3456x40_d2 := by decide
  bcast_S_S40x3x2048 := by decide
  bcast_S_S3456x40 := by decide

/-- The three comparisons of one element. -/
theorem bounded_of {a : EReal} (h : IntOp.ori (Ideal.cmp .oeq a (Ideal.ofBits .f32 0x00000000#32))
    (IntOp.andi (Ideal.cmp .oge a (Ideal.ofBits .f32 0x04E00000#32)) (Ideal.cmp .ole a (Ideal.ofBits .f32 0x7F7F0000#32))) = 1#1) :
    Bounded a := by
  rw [Ideal.ofBits_zero_f32] at h
  by_cases h0 : a = 0
  · exact .inl h0
  refine .inr ?_
  by_cases h1 : Ideal.ofBits .f32 0x04E00000#32 ≤ a
  · by_cases h2 : a ≤ Ideal.ofBits .f32 0x7F7F0000#32
    · exact ⟨h1, h2⟩
    · simp [Ideal.cmp, h0, h1, h2, IntOp.ori, IntOp.andi] at h
  · simp [Ideal.cmp, h0, h1, IntOp.ori, IntOp.andi] at h

variable [Facts]
open Facts

variable (x : FVec Ideal S5120x3x2048 .bf16) (w : FVec Ideal S3456x5120 .bf16)

/-- The token groups' largest magnitudes. -/
abbrev maxX : FVec Ideal S40x3x2048 .f32 :=
  Host.reduce FloatOps.maximumf (Host.absf (shapeCast S40x128x3x2048 (extf .f32 x bitsLt_bf16_f32) shapeCasts_S5120x3x2048_S40x128x3x2048))
    (constant S_ .f32 0xFF800000#32) reducesTo_S40x128x3x2048_S40x3x2048_d1 h_S_
/-- The weight groups' largest magnitudes. -/
abbrev maxW : FVec Ideal S3456x40 .f32 :=
  Host.reduce FloatOps.maximumf (Host.absf (shapeCast S3456x40x128 (extf .f32 w bitsLt_bf16_f32) shapeCasts_S3456x5120_S3456x40x128))
    (constant S_ .f32 0xFF800000#32) reducesTo_S3456x40x128_S3456x40_d2 h_S_

theorem maxX_at (g : Fin 40) (b : Fin 3) (t : Fin 2048) : maxX x (ix3 g b t) = xMax x g b t := by
  have hr : S40x128x3x2048.Reduces [1] S40x3x2048 := by decide
  have e : ∀ k : Fin 128, hr.lift (ix3 g b t) k = ix4 g k b t := fun k => by
    funext a; match a with | ⟨0, _⟩ => rfl | ⟨1, _⟩ => rfl | ⟨2, _⟩ => rfl | ⟨3, _⟩ => rfl
  have hf : (Host.absf (shapeCast S40x128x3x2048 (extf .f32 x bitsLt_bf16_f32) shapeCasts_S5120x3x2048_S40x128x3x2048) : FVec Ideal S40x128x3x2048 .f32) ∘ hr.lift (ix3 g b t)
      = fun k : Fin 128 => (max (x (ix3 (row g k) b t)) (-(x (ix3 (row g k) b t))) : EReal) :=
    funext fun k => (congrArg (Host.absf (shapeCast S40x128x3x2048 (extf .f32 x bitsLt_bf16_f32) shapeCasts_S5120x3x2048_S40x128x3x2048) : FVec Ideal S40x128x3x2048 .f32) (e k)).trans (congrArg (fun z : EReal => max z (-z))
      ((Cert.ReferenceIdeal.Gen.x_split _ _ g k b t).trans (extf_apply (φ := .bf16) (ψ := .f32) _ bitsLt_bf16_f32 _)))
  refine (Host.reduce_eq_fold_single (max : EReal → EReal → EReal) _ _ reducesTo_S40x128x3x2048_S40x3x2048_d1 hr h_S_ (ix3 g b t)).trans ?_
  exact congrArg (Finset.fold max (Ideal.ofBits .f32 0xFF800000#32) · Finset.univ) hf

theorem maxW_at (o : Fin 3456) (g : Fin 40) : maxW w (ix2 o g) = wMax w o g := by
  have hr : S3456x40x128.Reduces [2] S3456x40 := by decide
  have e : ∀ k : Fin 128, hr.lift (ix2 o g) k = ix3 o g k := fun k => by
    funext a; match a with | ⟨0, _⟩ => rfl | ⟨1, _⟩ => rfl | ⟨2, _⟩ => rfl
  have hf : (Host.absf (shapeCast S3456x40x128 (extf .f32 w bitsLt_bf16_f32) shapeCasts_S3456x5120_S3456x40x128) : FVec Ideal S3456x40x128 .f32) ∘ hr.lift (ix2 o g)
      = fun k : Fin 128 => (max (w (ix2 o (row g k))) (-(w (ix2 o (row g k)))) : EReal) :=
    funext fun k => (congrArg (Host.absf (shapeCast S3456x40x128 (extf .f32 w bitsLt_bf16_f32) shapeCasts_S3456x5120_S3456x40x128) : FVec Ideal S3456x40x128 .f32) (e k)).trans (congrArg (fun z : EReal => max z (-z))
      ((Cert.ReferenceIdeal.Gen.w_split _ _ o g k).trans (extf_apply (φ := .bf16) (ψ := .f32) _ bitsLt_bf16_f32 _)))
  refine (Host.reduce_eq_fold_single (max : EReal → EReal → EReal) _ _ reducesTo_S3456x40x128_S3456x40_d2 hr h_S_ (ix2 o g)).trans ?_
  exact congrArg (Finset.fold max (Ideal.ofBits .f32 0xFF800000#32) · Finset.univ) hf

/-- One element of a predicate over an array. -/
theorem pred_at {s : Shape} (M : FVec Ideal s .f32) (h : S_.BroadcastsInDim s (![] : Fin 0 → Fin s.rank)) (i : s.Idx) :
    ori (cmpf .oeq M (broadcastInDim s ![] h (constant (F := Ideal) S_ .f32 0x00000000#32)))
      (andi (cmpf .oge M (broadcastInDim s ![] h (constant (F := Ideal) S_ .f32 0x04E00000#32)))
        (cmpf .ole M (broadcastInDim s ![] h (constant (F := Ideal) S_ .f32 0x7F7F0000#32)))) i
      = IntOp.ori (Ideal.cmp .oeq (M i) (Ideal.ofBits .f32 0x00000000#32))
        (IntOp.andi (Ideal.cmp .oge (M i) (Ideal.ofBits .f32 0x04E00000#32)) (Ideal.cmp .ole (M i) (Ideal.ofBits .f32 0x7F7F0000#32))) := rfl

theorem boundedX (h : (fn (F := Ideal) x w).1 = fun _ => 1#1) (g : Fin 40) (b : Fin 3) (t : Fin 2048) : Bounded (xMax x g b t) := by
  have e := congrFun h (ix3 g b t)
  unfold fn fn_part1 at e
  rw [← maxX_at]
  exact bounded_of ((pred_at (maxX x) bcast_S_S40x3x2048 (ix3 g b t)).symm.trans e)

theorem boundedW (h : (fn (F := Ideal) x w).2 = fun _ => 1#1) (o : Fin 3456) (g : Fin 40) : Bounded (wMax w o g) := by
  have e := congrFun h (ix2 o g)
  unfold fn fn_part1 at e
  rw [← maxW_at]
  exact bounded_of ((pred_at (maxW w) bcast_S_S3456x40 (ix2 o g)).symm.trans e)

end Cert.Pre_scales_normal

end
-- ==== Proof.Eq.Ref.lean ====
/-
  The reference's five results are the closed form of its arguments, with no condition.
-/
module

public import proofs.«01_k».proof.Proof.Eq.RefPay
public import proofs.«01_k».proof.Proof.Gen.ReferenceIdeal.Value

@[expose] public section

noncomputable section

namespace Cert.ReferenceIdeal.Value

open Idealize.ShloMosaic Idealize.ShloMosaic.ValueIdx Cert.GroupScale Cert.ReferenceIdeal.Gen

variable (x : Vec Ideal S5120x3x2048 .bf16) (w : Vec Ideal S3456x5120 .bf16)

theorem ld_x : View.ld x r0_0 = x := View.ld_unit_zero hz3 _ x
theorem ld_w : View.ld w r0_1 = w := View.ld_unit_zero hz5 _ w

theorem pay17 : k0_pay17 x w = k0_pay5 x := by unfold k0_pay17; rw [ld_x]
theorem pay18 : k0_pay18 x w = k0_pay6 x := by unfold k0_pay18; rw [ld_x]
theorem pay19 : k0_pay19 x w = k0_pay7 w := by unfold k0_pay19; rw [ld_w]
theorem pay20 : k0_pay20 x w = k0_pay8 w := by unfold k0_pay20; rw [ld_w]
theorem pay21 : k0_pay21 x w = k0_pay9 w := by unfold k0_pay21; rw [ld_w]

/-- The token scales. -/
theorem G4_at (g : Fin 40) (b : Fin 3) (t : Fin 2048) : G4 (F := Ideal) x w (ix3 g b t) = scale (xMax x g b t) :=
  (congrFun (pay17 x w) _).trans (k0_pay5_at x g b t)

/-- The token codes. -/
theorem G3_at (k : Fin 5120) (b : Fin 3) (t : Fin 2048) : G3 (F := Ideal) x w (ix3 k b t) = xCode x k b t := by
  obtain ⟨g, r, rfl⟩ := exists_row k
  refine (congrFun (pay18 x w) _).trans ((k0_pay6_at x g r b t).trans ?_)
  rw [xCode, grp_row]

/-- The weight scales. -/
theorem G6_at (o : Fin 3456) (g : Fin 40) : G6 (F := Ideal) x w (ix2 o g) = scale (wMax w o g) := by
  unfold G6
  rw [pay20, pay21]
  exact k0_pay11_at w o g

/-- The weight codes. -/
theorem G5_at (o : Fin 3456) (k : Fin 5120) : G5 (F := Ideal) x w (ix2 o k) = wCode w o k := by
  obtain ⟨g, r, rfl⟩ := exists_row k
  unfold G5
  rw [pay19, pay20, pay21]
  refine (k0_pay12_at w o g r).trans ?_
  rw [wCode, grp_row]

/-- The dequantised operands. -/
abbrev xDeq : FVec Ideal S5120x3x2048 .bf16 := k0_pay13 (k0_pay5 x) (k0_pay6 x)
abbrev wDeq : FVec Ideal S3456x5120 .bf16 := k0_pay14 (k0_pay7 w) (k0_pay8 w) (k0_pay9 w) one

theorem xDeq_at (k : Fin 5120) (b : Fin 3) (t : Fin 2048) : xDeq x (ix3 k b t) = xCode x k b t * scale (xMax x (grp k) b t) := by
  obtain ⟨g, r, rfl⟩ := exists_row k
  refine (k0_pay13_at x g r b t).trans ?_
  rw [xCode, grp_row]

theorem wDeq_at (o : Fin 3456) (k : Fin 5120) : wDeq w (ix2 o k) = wCode w o k * scale (wMax w o (grp k)) := by
  obtain ⟨g, r, rfl⟩ := exists_row k
  refine (k0_pay14_at w o g r).trans ?_
  rw [wCode, grp_row]

theorem sum_eq (b : Fin 3) (t : Fin 2048) (o : Fin 3456) :
    ∑ k : Fin 5120, wDeq w (ix2 o k) * xDeq x (ix3 k b t) = prod x w b t o :=
  Finset.sum_congr rfl fun k _ => congrArg₂ (fun p q : EReal => p * q) (wDeq_at w o k) (xDeq_at x k b t)

/-- Adding the unit batch axis. -/
theorem unit_at (v : S2048x3456.Idx → EReal) (h : S2048x3456.ShapeCasts S1x2048x3456) (z : Fin 1) (t : Fin 2048) (o : Fin 3456) :
    shapeCast S1x2048x3456 v h (ix3 z t o) = v (ix2 t o) :=
  shapeCast_apply v h _ _ (by
    rw [Shape.rowMajor_val_three, Shape.rowMajor_val_two]
    show t.val * 3456 + o.val = (z.val * 2048 + t.val) * 3456 + o.val
    have := z.isLt
    omega)

theorem piece0 (z : Fin 1) (t : Fin 2048) (o : Fin 3456) :
    k0_pay15 (k0_pay5 x) (k0_pay6 x) (k0_pay7 w) (k0_pay8 w) (k0_pay9 w) one (ix3 z t o) = prod x w 0 t o := by
  unfold k0_pay15
  exact (unit_at _ _ z t o).trans ((truncf_apply (φ := .f32) (ψ := .bf16) _ bitsLt_bf16_f32 _).trans
    ((batch_at (xDeq x) (wDeq w) 0 _ rfl _ _ t o).trans (sum_eq x w 0 t o)))

theorem piece1 (z : Fin 1) (t : Fin 2048) (o : Fin 3456) :
    k0_pay1 (k0_pay16 (k0_pay5 x) (k0_pay6 x) (k0_pay7 w) (k0_pay8 w) (k0_pay9 w) one) (ix3 z t o) = prod x w 1 t o := by
  unfold k0_pay1 k0_pay16
  exact (unit_at _ _ z t o).trans ((truncf_apply (φ := .f32) (ψ := .bf16) _ bitsLt_bf16_f32 _).trans
    ((batch_at (xDeq x) (wDeq w) 1 _ rfl _ _ t o).trans (sum_eq x w 1 t o)))

theorem piece2 (z : Fin 1) (t : Fin 2048) (o : Fin 3456) :
    k0_pay2 (xDeq x) (wDeq w) (ix3 z t o) = prod x w 2 t o := by
  unfold k0_pay2
  exact (unit_at _ _ z t o).trans ((truncf_apply (φ := .f32) (ψ := .bf16) _ bitsLt_bf16_f32 _).trans
    ((batch_at (xDeq x) (wDeq w) 2 _ rfl _ _ t o).trans (sum_eq x w 2 t o)))

/-- The product, as an array. -/
def prodArr : S3x2048x3456.Idx → EReal := fun y => prod x w (y 0) (y 1) (y 2)

/-- A piece of the product array lies at its batch. -/
theorem prodArr_at (b : Fin 3) (off : Fin 3 → ℕ) (hoff : off = ![b.val, 0, 0]) (inb : ∀ a, off a + S1x2048x3456.size a ≤ S3x2048x3456.size a)
    (z : Fin 1) (t : Fin 2048) (o : Fin 3456) :
    prodArr x w ((Rect.unit (s := S3x2048x3456) off S1x2048x3456.size inb).idx (ix3 z t o)) = prod x w b t o := by
  subst hoff
  have hz := z.isLt
  have e : (Rect.unit (s := S3x2048x3456) ![b.val, 0, 0] S1x2048x3456.size inb).idx (ix3 z t o) = ix3 b t o := by
    funext a
    match a with
    | ⟨0, _⟩ => apply Fin.ext; show b.val + 1 * z.val = b.val; omega
    | ⟨1, _⟩ => apply Fin.ext; show 0 + 1 * t.val = t.val; omega
    | ⟨2, _⟩ => apply Fin.ext; show 0 + 1 * o.val = o.val; omega
  rw [e]
  rfl

/-- The product. -/
theorem G2_at (b : Fin 3) (t : Fin 2048) (o : Fin 3456) : G2 (F := Ideal) x w (ix3 b t o) = prod x w b t o := by
  unfold G2
  rw [pay17, pay18, pay19, pay20, pay21]
  refine View.canon_apply_of_pieces (Val := Elt Ideal) (e := .bf16) (prodArr x w) _ ?_ (ix3 b t o) (cover0_2 _ _ _ _)
  intro pc hpc y
  rcases List.mem_cons.mp hpc with rfl | hpc
  · rw [eq_ix3 (n0 := 1) (n1 := 2048) (n2 := 3456) y]
    exact (piece2 x w _ _ _).trans (prodArr_at x w 2 _ rfl inb_S3x2048x3456_S1x2048x3456_2_0_0 _ _ _).symm
  rcases List.mem_cons.mp hpc with rfl | hpc
  · rw [eq_ix3 (n0 := 1) (n1 := 2048) (n2 := 3456) y]
    exact (piece1 x w _ _ _).trans (prodArr_at x w 1 _ rfl inb_S3x2048x3456_S1x2048x3456_1_0_0 _ _ _).symm
  rcases List.mem_cons.mp hpc with rfl | hpc
  · rw [eq_ix3 (n0 := 1) (n1 := 2048) (n2 := 3456) y]
    exact (piece0 x w _ _ _).trans (prodArr_at x w 0 _ rfl inb_S3x2048x3456_S1x2048x3456_0_0_0 _ _ _).symm
  nomatch hpc

end Cert.ReferenceIdeal.Value

end
-- ==== Proof.lean ====
/-
  The proof of `Cert.Claim` (proofs.«01_k».proof.Defs): the frames of the three programs, and the agreement of the
  kernel with the reference in every result. Each side is brought to one closed form (Proof/Eq/Spec.lean): the kernel's
  where the precondition holds (Proof/KI/Values.lean, Proof/Eq/Pre.lean), the reference's always (Proof/Eq/Ref.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.KF.Body
public import proofs.«01_k».proof.Proof.KI.Values
public import proofs.«01_k».proof.Proof.Eq.Pre
public import proofs.«01_k».proof.Proof.Eq.Ref

@[expose] public section

noncomputable section

namespace Cert.Proof

open Idealize.ShloMosaic hiding ix2 ix3 eq_ix2 eq_ix3
open Idealize.ShloMosaic.ValueIdx Idealize.SL.Sem

attribute [local instance] Cert.Pre_scales_normal.facts

section Reference
open Cert.ReferenceIdeal Cert.ReferenceIdeal.Value Cert.KernelIdeal.Gen

variable (x : Vec Ideal Cert.ReferenceIdeal.S5120x3x2048 .bf16) (w : Vec Ideal Cert.ReferenceIdeal.S3456x5120 .bf16)

theorem ref_y : G2 (F := Ideal) x w = yArr x w := by
  funext i
  obtain ⟨b, t, o, rfl⟩ : ∃ b t o, i = ix3 b t o := ⟨i 0, i 1, i 2, eq_ix3 i⟩
  exact G2_at x w b t o

theorem ref_xc : G3 (F := Ideal) x w = xcOut x := by
  funext i
  obtain ⟨k, b, t, rfl⟩ : ∃ k b t, i = ix3 k b t := ⟨i 0, i 1, i 2, eq_ix3 i⟩
  exact G3_at x w k b t

theorem ref_xs : G4 (F := Ideal) x w = xsOut x := by
  funext i
  obtain ⟨g, b, t, rfl⟩ : ∃ g b t, i = ix3 g b t := ⟨i 0, i 1, i 2, eq_ix3 i⟩
  exact G4_at x w g b t

theorem ref_wc : G5 (F := Ideal) x w = wcArr w := by
  funext i
  obtain ⟨o, k, rfl⟩ : ∃ o k, i = ix2 o k := ⟨i 0, i 1, eq_ix2 i⟩
  exact G5_at x w o k

theorem ref_ws : G6 (F := Ideal) x w = wsOut w := by
  funext i
  obtain ⟨o, g, rfl⟩ : ∃ o g, i = ix2 o g := ⟨i 0, i 1, eq_ix2 i⟩
  exact G6_at x w o g

end Reference

/-- The kernel and the reference return the same five arrays. -/
theorem equal : Cert.algebraic_KernelIdeal_ReferenceIdeal_pre_scales_normal := by
  intro m g m' g' hpre hargs
  have hX : ∀ c, Cert.KernelIdeal.Gen.BoundedX m c := fun c => Cert.Pre_scales_normal.boundedX _ _ (hpre c).1
  have hW : ∀ c, Cert.KernelIdeal.Gen.BoundedW m c := fun c => Cert.Pre_scales_normal.boundedW _ _ (hpre c).2
  refine ⟨fun c => Cert.KernelIdeal.Gen.yArr (Cert.KernelIdeal.Gen.argX m c) (Cert.KernelIdeal.Gen.argW m c),
    fun c => Cert.KernelIdeal.Gen.xcOut (Cert.KernelIdeal.Gen.argX m c), fun c => Cert.KernelIdeal.Gen.xsOut (Cert.KernelIdeal.Gen.argX m c),
    fun c => Cert.KernelIdeal.Gen.wcArr (Cert.KernelIdeal.Gen.argW m c), fun c => Cert.KernelIdeal.Gen.wsOut (Cert.KernelIdeal.Gen.argW m c),
    Cert.KernelIdeal.Gen.values m g hX hW, ?_⟩
  refine (θ_run Cert.ReferenceIdeal.defs _ _).mono (fun r h c => ?_) (Cert.ReferenceIdeal.Value.run m' g')
  obtain ⟨h0, h1, h2, h3, h4, ha, hb⟩ := h c
  obtain ⟨e0, e1⟩ := hargs c
  refine ⟨h0.trans ((ref_y _ _).trans ?_), h1.trans ((ref_xc _ _).trans ?_), h2.trans ((ref_xs _ _).trans ?_),
    h3.trans ((ref_wc _ _).trans ?_), h4.trans ((ref_ws _ _).trans ?_), ha, hb⟩
  · exact congrArg₂ Cert.KernelIdeal.Gen.yArr e0 e1
  · exact congrArg Cert.KernelIdeal.Gen.xcOut e0
  · exact congrArg Cert.KernelIdeal.Gen.xsOut e0
  · exact congrArg Cert.KernelIdeal.Gen.wcArr e1
  · exact congrArg Cert.KernelIdeal.Gen.wsOut e1

theorem claim : Cert.Claim :=
  ⟨Cert.Kernel.Gen.facts, Cert.KernelIdeal.Gen.facts, Cert.ReferenceIdeal.Gen.facts, Cert.Pre_scales_normal.facts,
    fun m g _ => Cert.Kernel.Gen.frame m g,
    fun m g _ => Cert.KernelIdeal.Gen.frame m g,
    fun m g _ => Cert.KernelIdeal.Gen.frame m g,
    fun m g _ => Cert.ReferenceIdeal.Gen.frame m g,
    fun m g _ => Cert.ReferenceIdeal.Gen.frame m g,
    trivial,
    equal⟩

end Cert.Proof

end
